-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_and_separable [hPre_real_and_separable : Cert.Pre_real_and_separable.Facts] (m : (ℓ : Loc Cert.KernelIdeal.nD Cert.KernelIdeal.τ Cert.KernelIdeal.sig) → Buf (Elt Ideal) ℓ) : Prop :=
  ∀ c : Dev Cert.KernelIdeal.nD,
    (Cert.Pre_real_and_separable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_real_and_separable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_real_and_separable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_real_and_separable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_real_and_separable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_and_separable [hPre_real_and_separable : Cert.Pre_real_and_separable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_and_separable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_real_and_separable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_real_and_separable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_real_and_separable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_real_and_separable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_real_and_separable [hKernelIdeal : Cert.KernelIdeal.Facts] [hPre_real_and_separable : Cert.Pre_real_and_separable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_and_separable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_real_and_separable [hReferenceIdeal : Cert.ReferenceIdeal.Facts] [hPre_real_and_separable : Cert.Pre_real_and_separable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_and_separable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_real_and_separable [hKernelIdeal : Cert.KernelIdeal.Facts] [hReferenceIdeal : Cert.ReferenceIdeal.Facts] [hPre_real_and_separable : Cert.Pre_real_and_separable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_and_separable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_real_and_separable : Cert.Pre_real_and_separable.Facts),
    quiescent_Kernel (hKernel := hKernel)
    ∧ quiescent_KernelIdeal (hKernelIdeal := hKernelIdeal)
    ∧ quiescent_KernelIdeal_pre_real_and_separable (hKernelIdeal := hKernelIdeal) (hPre_real_and_separable := hPre_real_and_separable)
    ∧ quiescent_ReferenceIdeal (hReferenceIdeal := hReferenceIdeal)
    ∧ quiescent_ReferenceIdeal_pre_real_and_separable (hReferenceIdeal := hReferenceIdeal) (hPre_real_and_separable := hPre_real_and_separable)
    ∧ preserves_Kernel_KernelIdeal
    ∧ algebraic_KernelIdeal_ReferenceIdeal_pre_real_and_separable (hKernelIdeal := hKernelIdeal) (hReferenceIdeal := hReferenceIdeal) (hPre_real_and_separable := hPre_real_and_separable)
-- ==== Pre_real_and_separable.lean ====
abbrev S8x64x256x256 : Shape := ⟨4, ![8, 64, 256, 256]⟩
abbrev S8x32x512x512 : Shape := ⟨4, ![8, 32, 512, 512]⟩
abbrev S12x12 : Shape := ⟨2, ![12, 12]⟩
abbrev S128x32 : Shape := ⟨2, ![128, 32]⟩
abbrev S128 : Shape := ⟨1, ![128]⟩
abbrev S64x128 : Shape := ⟨2, ![64, 128]⟩
abbrev S64 : Shape := ⟨1, ![64]⟩
abbrev S_ : Shape := ⟨0, ![]⟩
abbrev S12 : Shape := ⟨1, ![12]⟩
abbrev S12x1 : Shape := ⟨2, ![12, 1]⟩
abbrev S1x12 : Shape := ⟨2, ![1, 12]⟩

class Facts : Prop where
  reducesTo_S12x12_S12_d1 : S12x12.ReducesTo [1] S12
  h_S_ : 0 < S_.numel
  reducesTo_S12x12_S12_d0 : S12x12.ReducesTo [0] S12
  reducesTo_S12x12_S_d0_1 : S12x12.ReducesTo [0, 1] S_
  bcast_S_S8x64x256x256 : S_.BroadcastsInDim S8x64x256x256 (![] : Fin 0 → Fin S8x64x256x256.rank)
  bcast_S_S8x32x512x512 : S_.BroadcastsInDim S8x32x512x512 (![] : Fin 0 → Fin S8x32x512x512.rank)
  bcast_S_S12x12 : S_.BroadcastsInDim S12x12 (![] : Fin 0 → Fin S12x12.rank)
  bcast_S12_S12x1_0 : S12.BroadcastsInDim S12x1 (![0] : Fin 1 → Fin S12x1.rank)
  bcast_S12_S1x12_1 : S12.BroadcastsInDim S1x12 (![1] : Fin 1 → Fin S1x12.rank)
  bcast_S12x1_S12x12_0_1 : S12x1.BroadcastsInDim S12x12 (![0, 1] : Fin 2 → Fin S12x12.rank)
  bcast_S1x12_S12x12_0_1 : S1x12.BroadcastsInDim S12x12 (![0, 1] : Fin 2 → Fin S12x12.rank)

variable [Facts]

def fn_part1 {F : FTy → Type} [FloatOps F] (main_v5 : IVec S8x64x256x256 1) (main_v8 : IVec S8x32x512x512 1) (main_v11 : IVec S12x12 1) (main_v12 : IVec S_ 1) (main_v14 : FVec F S12x12 .f32) (main_v15 : FVec F S12x1 .f32) (main_v16 : FVec F S1x12 .f32) : IVec S8x64x256x256 1 × IVec S8x32x512x512 1 × IVec S12x12 1 × IVec S_ 1 × IVec S12x12 1 :=
  let main_v17 : FVec F S12x12 .f32 := broadcastInDim S12x12 ![0, 1] bcast_S12x1_S12x12_0_1 main_v15
  let main_v18 : FVec F S12x12 .f32 := broadcastInDim S12x12 ![0, 1] bcast_S1x12_S12x12_0_1 main_v16
  let main_v19 : FVec F S12x12 .f32 := mulf main_v17 main_v18
  let main_v20 : IVec S12x12 1 := cmpf .oeq main_v14 main_v19
  (main_v5, main_v8, main_v11, main_v12, main_v20)

def fn {F : FTy → Type} [FloatOps F] (main_arg0 : FVec F S8x64x256x256 .f32) (main_arg1 : FVec F S8x32x512x512 .f32) (main_arg2 : FVec F S12x12 .f32) (main_arg3 : FVec F S128x32 .f32) (main_arg4 : FVec F S128 .f32) (main_arg5 : FVec F S64x128 .f32) (main_arg6 : FVec F S64 .f32) (main_arg7 : FVec F S64x128 .f32) (main_arg8 : FVec F S64 .f32) : IVec S8x64x256x256 1 × IVec S8x32x512x512 1 × IVec S12x12 1 × IVec S_ 1 × IVec S12x12 1 :=
  let main_cst : FVec F S_ .f32 := constant S_ .f32 0x00000000#32
  let main_v0 : FVec F S12 .f32 := (fun x v => Host.reduceAdd x v reducesTo_S12x12_S12_d1 h_S_) main_arg2 main_cst
  let main_cst_0 : FVec F S_ .f32 := constant S_ .f32 0x00000000#32
  let main_v1 : FVec F S12 .f32 := (fun x v => Host.reduceAdd x v reducesTo_S12x12_S12_d0 h_S_) main_arg2 main_cst_0
  let main_cst_1 : FVec F S_ .f32 := constant S_ .f32 0x00000000#32
  let main_v2 : FVec F S_ .f32 := (fun x v => Host.reduceAdd x v reducesTo_S12x12_S_d0_1 h_S_) main_arg2 main_cst_1
  let main_v3 : FVec F S8x64x256x256 .f32 := Host.absf main_arg0
  let main_cst_2 : FVec F S_ .f32 := constant S_ .f32 0x7F800000#32
  let main_v4 : FVec F S8x64x256x256 .f32 := broadcastInDim S8x64x256x256 ![] bcast_S_S8x64x256x256 main_cst_2
  let main_v5 : IVec S8x64x256x256 1 := cmpf .olt main_v3 main_v4
  let main_v6 : FVec F S8x32x512x512 .f32 := Host.absf main_arg1
  let main_cst_3 : FVec F S_ .f32 := constant S_ .f32 0x7F800000#32
  let main_v7 : FVec F S8x32x512x512 .f32 := broadcastInDim S8x32x512x512 ![] bcast_S_S8x32x512x512 main_cst_3
  let main_v8 : IVec S8x32x512x512 1 := cmpf .olt main_v6 main_v7
  let main_v9 : FVec F S12x12 .f32 := Host.absf main_arg2
  let main_cst_4 : FVec F S_ .f32 := constant S_ .f32 0x7F800000#32
  let main_v10 : FVec F S12x12 .f32 := broadcastInDim S12x12 ![] bcast_S_S12x12 main_cst_4
  let main_v11 : IVec S12x12 1 := cmpf .olt main_v9 main_v10
  let main_cst_5 : FVec F S_ .f32 := constant S_ .f32 0x00000000#32
  let main_v12 : IVec S_ 1 := cmpf .ogt main_v2 main_cst_5
  let main_v13 : FVec F S12x12 .f32 := broadcastInDim S12x12 ![] bcast_S_S12x12 main_v2
  let main_v14 : FVec F S12x12 .f32 := mulf main_arg2 main_v13
  let main_v15 : FVec F S12x1 .f32 := broadcastInDim S12x1 ![0] bcast_S12_S12x1_0 main_v0
  let main_v16 : FVec F S1x12 .f32 := broadcastInDim S1x12 ![1] bcast_S12_S1x12_1 main_v1
  fn_part1 (F := F) main_v5 main_v8 main_v11 main_v12 main_v14 main_v15 main_v16
-- ==== Kernel.lean ====
abbrev S8x64x256x256 : Shape := ⟨4, ![8, 64, 256, 256]⟩
abbrev S8x32x512x512 : Shape := ⟨4, ![8, 32, 512, 512]⟩
abbrev S12x12 : Shape := ⟨2, ![12, 12]⟩
abbrev S128x32 : Shape := ⟨2, ![128, 32]⟩
abbrev S128 : Shape := ⟨1, ![128]⟩
abbrev S64x128 : Shape := ⟨2, ![64, 128]⟩
abbrev S64 : Shape := ⟨1, ![64]⟩
abbrev S3054 : Shape := ⟨1, ![3054]⟩
abbrev S_ : Shape := ⟨0, ![]⟩
abbrev S12 : Shape := ⟨1, ![12]⟩
abbrev S512x256 : Shape := ⟨2, ![512, 256]⟩
abbrev S3054x1 : Shape := ⟨2, ![3054, 1]⟩
abbrev S3054x2 : Shape := ⟨2, ![3054, 2]⟩
abbrev S256x512 : Shape := ⟨2, ![256, 512]⟩
abbrev S8x64x65536 : Shape := ⟨3, ![8, 64, 65536]⟩
abbrev S8x64x1 : Shape := ⟨3, ![8, 64, 1]⟩
abbrev S1x32x16384 : Shape := ⟨3, ![1, 32, 16384]⟩
abbrev S1x32x1 : Shape := ⟨3, ![1, 32, 1]⟩
abbrev S32x1 : Shape := ⟨2, ![32, 1]⟩
abbrev S32x16384 : Shape := ⟨2, ![32, 16384]⟩
abbrev S32 : Shape := ⟨1, ![32]⟩
abbrev S8x32x256x256 : Shape := ⟨4, ![8, 32, 256, 256]⟩
abbrev S1x4x512x512 : Shape := ⟨4, ![1, 4, 512, 512]⟩
abbrev S1x4x256x256 : Shape := ⟨4, ![1, 4, 256, 256]⟩
abbrev S4x512x512 : Shape := ⟨3, ![4, 512, 512]⟩
abbrev S2048x512 : Shape := ⟨2, ![2048, 512]⟩
abbrev S2048x256 : Shape := ⟨2, ![2048, 256]⟩
abbrev S4x512x256 : Shape := ⟨3, ![4, 512, 256]⟩
abbrev S1x512x256 : Shape := ⟨3, ![1, 512, 256]⟩
abbrev S256x256 : Shape := ⟨2, ![256, 256]⟩
abbrev S1x1x256x256 : Shape := ⟨4, ![1, 1, 256, 256]⟩
abbrev S8x32x65536 : Shape := ⟨3, ![8, 32, 65536]⟩
abbrev S128x1 : Shape := ⟨2, ![128, 1]⟩
abbrev S64x1 : Shape := ⟨2, ![64, 1]⟩
abbrev S1x32x8192 : Shape := ⟨3, ![1, 32, 8192]⟩
abbrev S1x64x8192 : Shape := ⟨3, ![1, 64, 8192]⟩
abbrev S1x64x1 : Shape := ⟨3, ![1, 64, 1]⟩
abbrev S32x8192 : Shape := ⟨2, ![32, 8192]⟩
abbrev S128x8192 : Shape := ⟨2, ![128, 8192]⟩
abbrev S64x8192 : Shape := ⟨2, ![64, 8192]⟩

abbrev nBuf : Space → Nat
  | .hbm => 87
  | .vmem => 34
  | .smem => 0
  | _ => 0

abbrev bufTy : (tb : Table) → Fin (tcTables nBuf tb) → BufTy
  | .hbm, ⟨0, _⟩ => ⟨S8x64x256x256, .f32⟩
  | .hbm, ⟨1, _⟩ => ⟨S8x32x512x512, .f32⟩
  | .hbm, ⟨2, _⟩ => ⟨S12x12, .f32⟩
  | .hbm, ⟨3, _⟩ => ⟨S128x32, .f32⟩
  | .hbm, ⟨4, _⟩ => ⟨S128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S64, .f32⟩
  | .hbm, ⟨9, _⟩ => ⟨S3054, .i32⟩
  | .hbm, ⟨10, _⟩ => ⟨S3054, .i1⟩
  | .hbm, ⟨11, _⟩ => ⟨S3054, .i32⟩
  | .hbm, ⟨12, _⟩ => ⟨S3054, .i1⟩
  | .hbm, ⟨13, _⟩ => ⟨S3054, .i32⟩
  | .hbm, ⟨14, _⟩ => ⟨S3054, .i1⟩
  | .hbm, ⟨15, _⟩ => ⟨S3054, .i1⟩
  | .hbm, ⟨16, _⟩ => ⟨S3054, .i1⟩
  | .hbm, ⟨17, _⟩ => ⟨S3054, .i1⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S12, .f32⟩
  | .hbm, ⟨22, _⟩ => ⟨S_, .f32⟩
  | .hbm, ⟨23, _⟩ => ⟨S12, .f32⟩
  | .hbm, ⟨24, _⟩ => ⟨S12, .f32⟩
  | .hbm, ⟨25, _⟩ => ⟨S_, .f32⟩
  | .hbm, ⟨26, _⟩ => ⟨S12, .f32⟩
  | .hbm, ⟨27, _⟩ => ⟨S_, .f32⟩
  | .hbm, ⟨28, _⟩ => ⟨S12, .f32⟩
  | .hbm, ⟨29, _⟩ => ⟨S12, .f32⟩
  | .hbm, ⟨30, _⟩ => ⟨S12, .f32⟩
  | .hbm, ⟨31, _⟩ => ⟨S12, .f32⟩
  | .hbm, ⟨32, _⟩ => ⟨S_, .f32⟩
  | .hbm, ⟨33, _⟩ => ⟨S512x256, .f32⟩
  | .hbm, ⟨34, _⟩ => ⟨S_, .i32⟩
  | .hbm, ⟨35, _⟩ => ⟨S3054, .i32⟩
  | .hbm, ⟨36, _⟩ => ⟨S3054, .i32⟩
  | .hbm, ⟨37, _⟩ => ⟨S3054, .i32⟩
  | .hbm, ⟨38, _⟩ => ⟨S3054x1, .i32⟩
  | .hbm, ⟨39, _⟩ => ⟨S3054, .f32⟩
  | .hbm, ⟨40, _⟩ => ⟨S_, .i32⟩
  | .hbm, ⟨41, _⟩ => ⟨S3054, .i32⟩
  | .hbm, ⟨42, _⟩ => ⟨S3054, .i32⟩
  | .hbm, ⟨43, _⟩ => ⟨S3054, .i32⟩
  | .hbm, ⟨44, _⟩ => ⟨S_, .i32⟩
  | .hbm, ⟨45, _⟩ => ⟨S3054, .i32⟩
  | .hbm, ⟨46, _⟩ => ⟨S3054, .i32⟩
  | .hbm, ⟨47, _⟩ => ⟨S3054, .i32⟩
  | .hbm, ⟨48, _⟩ => ⟨S3054x1, .i32⟩
  | .hbm, ⟨49, _⟩ => ⟨S3054x1, .i32⟩
  | .hbm, ⟨50, _⟩ => ⟨S3054x2, .i32⟩
  | .hbm, ⟨51, _⟩ => ⟨S512x256, .f32⟩
  | .hbm, ⟨52, _⟩ => ⟨S_, .f32⟩
  | .hbm, ⟨53, _⟩ => ⟨S256x512, .f32⟩
  | .hbm, ⟨54, _⟩ => ⟨S_, .i32⟩
  | .hbm, ⟨55, _⟩ => ⟨S3054, .i32⟩
  | .hbm, ⟨56, _⟩ => ⟨S3054, .i32⟩
  | .hbm, ⟨57, _⟩ => ⟨S3054, .i32⟩
  | .hbm, ⟨58, _⟩ => ⟨S3054x1, .i32⟩
  | .hbm, ⟨59, _⟩ => ⟨S3054, .f32⟩
  | .hbm, ⟨60, _⟩ => ⟨S_, .i32⟩
  | .hbm, ⟨61, _⟩ => ⟨S3054, .i32⟩
  | .hbm, ⟨62, _⟩ => ⟨S3054, .i32⟩
  | .hbm, ⟨63, _⟩ => ⟨S3054, .i32⟩
  | .hbm, ⟨64, _⟩ => ⟨S_, .i32⟩
  | .hbm, ⟨65, _⟩ => ⟨S3054, .i32⟩
  | .hbm, ⟨66, _⟩ => ⟨S3054, .i32⟩
  | .hbm, ⟨67, _⟩ => ⟨S3054, .i32⟩
  | .hbm, ⟨68, _⟩ => ⟨S3054x1, .i32⟩
  | .hbm, ⟨69, _⟩ => ⟨S3054x1, .i32⟩
  | .hbm, ⟨70, _⟩ => ⟨S3054x2, .i32⟩
  | .hbm, ⟨71, _⟩ => ⟨S256x512, .f32⟩
  | .hbm, ⟨72, _⟩ => ⟨S256x512, .bf16⟩
  | .hbm, ⟨73, _⟩ => ⟨S512x256, .bf16⟩
  | .hbm, ⟨74, _⟩ => ⟨S8x64x65536, .f32⟩
  | .hbm, ⟨75, _⟩ => ⟨S8x64x1, .f32⟩
  | .hbm, ⟨76, _⟩ => ⟨S8x64x1, .f32⟩
  | .hbm, ⟨77, _⟩ => ⟨S8x32x256x256, .bf16⟩
  | .hbm, ⟨78, _⟩ => ⟨S8x32x65536, .bf16⟩
  | .hbm, ⟨79, _⟩ => ⟨S128x32, .bf16⟩
  | .hbm, ⟨80, _⟩ => ⟨S64x128, .bf16⟩
  | .hbm, ⟨81, _⟩ => ⟨S64x128, .bf16⟩
  | .hbm, ⟨82, _⟩ => ⟨S128x1, .f32⟩
  | .hbm, ⟨83, _⟩ => ⟨S64x1, .f32⟩
  | .hbm, ⟨84, _⟩ => ⟨S64x1, .f32⟩
  | .hbm, ⟨85, _⟩ => ⟨S8x64x65536, .f32⟩
  | .hbm, ⟨86, _⟩ => ⟨S8x64x256x256, .f32⟩
  | .local _ .vmem, ⟨0, _⟩ => ⟨S1x32x16384, .f32⟩
  | .local _ .vmem, ⟨1, _⟩ => ⟨S1x32x16384, .f32⟩
  | .local _ .vmem, ⟨2, _⟩ => ⟨S1x32x16384, .f32⟩
  | .local _ .vmem, ⟨3, _⟩ => ⟨S1x32x16384, .f32⟩
  | .local _ .vmem, ⟨4, _⟩ => ⟨S1x32x16384, .f32⟩
  | .local _ .vmem, ⟨5, _⟩ => ⟨S1x32x16384, .f32⟩
  | .local _ .vmem, ⟨6, _⟩ => ⟨S1x32x16384, .f32⟩
  | .local _ .vmem, ⟨7, _⟩ => ⟨S1x32x16384, .f32⟩
  | .local _ .vmem, ⟨8, _⟩ => ⟨S1x32x1, .f32⟩
  | .local _ .vmem, ⟨9, _⟩ => ⟨S1x32x1, .f32⟩
  | .local _ .vmem, ⟨10, _⟩ => ⟨S1x32x1, .f32⟩
  | .local _ .vmem, ⟨11, _⟩ => ⟨S1x32x1, .f32⟩
  | .local _ .vmem, ⟨12, _⟩ => ⟨S1x4x512x512, .f32⟩
  | .local _ .vmem, ⟨13, _⟩ => ⟨S1x4x512x512, .f32⟩
  | .local _ .vmem, ⟨14, _⟩ => ⟨S256x512, .bf16⟩
  | .local _ .vmem, ⟨15, _⟩ => ⟨S512x256, .bf16⟩
  | .local _ .vmem, ⟨16, _⟩ => ⟨S1x4x256x256, .bf16⟩
  | .local _ .vmem, ⟨17, _⟩ => ⟨S1x4x256x256, .bf16⟩
  | .local _ .vmem, ⟨18, _⟩ => ⟨S1x32x8192, .bf16⟩
  | .local _ .vmem, ⟨19, _⟩ => ⟨S1x32x8192, .bf16⟩
  | .local _ .vmem, ⟨20, _⟩ => ⟨S1x64x8192, .f32⟩
  | .local _ .vmem, ⟨21, _⟩ => ⟨S1x64x8192, .f32⟩
  | .local _ .vmem, ⟨22, _⟩ => ⟨S1x64x1, .f32⟩
  | .local _ .vmem, ⟨23, _⟩ => ⟨S1x64x1, .f32⟩
  | .local _ .vmem, ⟨24, _⟩ => ⟨S1x64x1, .f32⟩
  | .local _ .vmem, ⟨25, _⟩ => ⟨S1x64x1, .f32⟩
  | .local _ .vmem, ⟨26, _⟩ => ⟨S128x32, .bf16⟩
  | .local _ .vmem, ⟨27, _⟩ => ⟨S128x1, .f32⟩
  | .local _ .vmem, ⟨28, _⟩ => ⟨S64x128, .bf16⟩
  | .local _ .vmem, ⟨29, _⟩ => ⟨S64x1, .f32⟩
  | .local _ .vmem, ⟨30, _⟩ => ⟨S64x128, .bf16⟩
  | .local _ .vmem, ⟨31, _⟩ => ⟨S64x1, .f32⟩
  | .local _ .vmem, ⟨32, _⟩ => ⟨S1x64x8192, .f32⟩
  | .local _ .vmem, ⟨33, _⟩ => ⟨S1x64x8192, .f32⟩
  | _, _ => ⟨S8x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_c_2 : Ref sig .tc := ⟨.hbm, 12, rfl⟩
abbrev main_c_3 : Ref sig .tc := ⟨.hbm, 13, rfl⟩
abbrev main_c_4 : Ref sig .tc := ⟨.hbm, 14, rfl⟩
abbrev main_c_5 : Ref sig .tc := ⟨.hbm, 15, rfl⟩
abbrev main_c_6 : Ref sig .tc := ⟨.hbm, 16, rfl⟩
abbrev main_c_7 : Ref sig .tc := ⟨.hbm, 17, rfl⟩
abbrev main_cst : Ref sig .tc := ⟨.hbm, 18, rfl⟩
abbrev main_v0 : Ref sig .tc := ⟨.hbm, 19, rfl⟩
abbrev main_cst_8 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_cst_9 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_10 : Ref sig .tc := ⟨.hbm, 32, rfl⟩
abbrev main_v11 : Ref sig .tc := ⟨.hbm, 33, rfl⟩
abbrev main_c_11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_c_12 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_c_13 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_14 : Ref sig .tc := ⟨.hbm, 52, rfl⟩
abbrev main_v27 : Ref sig .tc := ⟨.hbm, 53, rfl⟩
abbrev main_c_15 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_16 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_c_17 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46_0 : Ref sig .tc := ⟨.hbm, 75, rfl⟩
abbrev main_v46_1 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg8_0 : Ref sig .tc := ⟨.vmem, 30, rfl⟩
abbrev cc2_stg9_0 : Ref sig .tc := ⟨.vmem, 31, rfl⟩
abbrev cc2_stg10_0 : Ref sig .tc := ⟨.vmem, 32, rfl⟩
abbrev cc2_stg10_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem8_0 : DmaSem sig := 30
abbrev cc2_sem9_0 : DmaSem sig := 31
abbrev cc2_sem10_0 : DmaSem sig := 32
abbrev cc2_sem10_1 : DmaSem sig := 33

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![8, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x4x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S256x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S512x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x4x256x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![8, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x32x8192 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x64x8192 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x64x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x64x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 1 → Memref sig .tc .vmem S128x32 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S128x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S64x128 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S64x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S64x128 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S64x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 2 → Memref sig .tc .vmem S1x64x8192 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, true]
-- ==== ReferenceIdeal.lean ====
abbrev S8x64x256x256 : Shape := ⟨4, ![8, 64, 256, 256]⟩
abbrev S8x32x512x512 : Shape := ⟨4, ![8, 32, 512, 512]⟩
abbrev S12x12 : Shape := ⟨2, ![12, 12]⟩
abbrev S128x32 : Shape := ⟨2, ![128, 32]⟩
abbrev S128 : Shape := ⟨1, ![128]⟩
abbrev S64x128 : Shape := ⟨2, ![64, 128]⟩
abbrev S64 : Shape := ⟨1, ![64]⟩
abbrev S_ : Shape := ⟨0, ![]⟩
abbrev S8x32x522x522 : Shape := ⟨4, ![8, 32, 522, 522]⟩
abbrev S256 : Shape := ⟨1, ![256]⟩
abbrev S256x1 : Shape := ⟨2, ![256, 1]⟩
abbrev S12 : Shape := ⟨1, ![12]⟩
abbrev S1x12 : Shape := ⟨2, ![1, 12]⟩
abbrev S256x12 : Shape := ⟨2, ![256, 12]⟩
abbrev S256x12x1 : Shape := ⟨3, ![256, 12, 1]⟩
abbrev S8x32x256x12x522 : Shape := ⟨5, ![8, 32, 256, 12, 522]⟩
abbrev S8x32x256x12x256x12 : Shape := ⟨6, ![8, 32, 256, 12, 256, 12]⟩
abbrev S8x32x256x256 : Shape := ⟨4, ![8, 32, 256, 256]⟩
abbrev S128x8x256x256 : Shape := ⟨4, ![128, 8, 256, 256]⟩
abbrev S8x128x256x256 : Shape := ⟨4, ![8, 128, 256, 256]⟩
abbrev S1x128x1x1 : Shape := ⟨4, ![1, 128, 1, 1]⟩
abbrev S64x8x256x256 : Shape := ⟨4, ![64, 8, 256, 256]⟩
abbrev S1x64x1x1 : Shape := ⟨4, ![1, 64, 1, 1]⟩
abbrev S8x64 : Shape := ⟨2, ![8, 64]⟩
abbrev S8x64x1x1 : Shape := ⟨4, ![8, 64, 1, 1]⟩

abbrev nBuf : Space → Nat
  | .hbm => 85
  | .vmem => 0
  | .smem => 0
  | _ => 0

abbrev bufTy : (tb : Table) → Fin (tcTables nBuf tb) → BufTy
  | .hbm, ⟨0, _⟩ => ⟨S8x64x256x256, .f32⟩
  | .hbm, ⟨1, _⟩ => ⟨S8x32x512x512, .f32⟩
  | .hbm, ⟨2, _⟩ => ⟨S12x12, .f32⟩
  | .hbm, ⟨3, _⟩ => ⟨S128x32, .f32⟩
  | .hbm, ⟨4, _⟩ => ⟨S128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S64, .f32⟩
  | .hbm, ⟨9, _⟩ => ⟨S12x12, .f32⟩
  | .hbm, ⟨10, _⟩ => ⟨S_, .i32⟩
  | .hbm, ⟨11, _⟩ => ⟨S_, .f32⟩
  | .hbm, ⟨12, _⟩ => ⟨S8x32x522x522, .f32⟩
  | .hbm, ⟨13, _⟩ => ⟨S256, .i32⟩
  | .hbm, ⟨14, _⟩ => ⟨S256x1, .i32⟩
  | .hbm, ⟨15, _⟩ => ⟨S_, .i32⟩
  | .hbm, ⟨16, _⟩ => ⟨S256x1, .i32⟩
  | .hbm, ⟨17, _⟩ => ⟨S256x1, .i32⟩
  | .hbm, ⟨18, _⟩ => ⟨S12, .i32⟩
  | .hbm, ⟨19, _⟩ => ⟨S1x12, .i32⟩
  | .hbm, ⟨20, _⟩ => ⟨S256x12, .i32⟩
  | .hbm, ⟨21, _⟩ => ⟨S256x12, .i32⟩
  | .hbm, ⟨22, _⟩ => ⟨S256x12, .i32⟩
  | .hbm, ⟨23, _⟩ => ⟨S256x12x1, .i32⟩
  | .hbm, ⟨24, _⟩ => ⟨S8x32x256x12x522, .f32⟩
  | .hbm, ⟨25, _⟩ => ⟨S256x12x1, .i32⟩
  | .hbm, ⟨26, _⟩ => ⟨S8x32x256x12x256x12, .f32⟩
  | .hbm, ⟨27, _⟩ => ⟨S8x32x256x256, .f32⟩
  | .hbm, ⟨28, _⟩ => ⟨S128x8x256x256, .f32⟩
  | .hbm, ⟨29, _⟩ => ⟨S8x128x256x256, .f32⟩
  | .hbm, ⟨30, _⟩ => ⟨S1x128x1x1, .f32⟩
  | .hbm, ⟨31, _⟩ => ⟨S8x128x256x256, .f32⟩
  | .hbm, ⟨32, _⟩ => ⟨S8x128x256x256, .f32⟩
  | .hbm, ⟨33, _⟩ => ⟨S_, .f32⟩
  | .hbm, ⟨34, _⟩ => ⟨S8x128x256x256, .f32⟩
  | .hbm, ⟨35, _⟩ => ⟨S8x128x256x256, .i1⟩
  | .hbm, ⟨36, _⟩ => ⟨S_, .f32⟩
  | .hbm, ⟨37, _⟩ => ⟨S8x128x256x256, .f32⟩
  | .hbm, ⟨38, _⟩ => ⟨S8x128x256x256, .f32⟩
  | .hbm, ⟨39, _⟩ => ⟨S8x128x256x256, .f32⟩
  | .hbm, ⟨40, _⟩ => ⟨S_, .f32⟩
  | .hbm, ⟨41, _⟩ => ⟨S8x128x256x256, .f32⟩
  | .hbm, ⟨42, _⟩ => ⟨S8x128x256x256, .f32⟩
  | .hbm, ⟨43, _⟩ => ⟨S64x8x256x256, .f32⟩
  | .hbm, ⟨44, _⟩ => ⟨S8x64x256x256, .f32⟩
  | .hbm, ⟨45, _⟩ => ⟨S1x64x1x1, .f32⟩
  | .hbm, ⟨46, _⟩ => ⟨S8x64x256x256, .f32⟩
  | .hbm, ⟨47, _⟩ => ⟨S8x64x256x256, .f32⟩
  | .hbm, ⟨48, _⟩ => ⟨S64x8x256x256, .f32⟩
  | .hbm, ⟨49, _⟩ => ⟨S8x64x256x256, .f32⟩
  | .hbm, ⟨50, _⟩ => ⟨S1x64x1x1, .f32⟩
  | .hbm, ⟨51, _⟩ => ⟨S8x64x256x256, .f32⟩
  | .hbm, ⟨52, _⟩ => ⟨S8x64x256x256, .f32⟩
  | .hbm, ⟨53, _⟩ => ⟨S_, .f32⟩
  | .hbm, ⟨54, _⟩ => ⟨S8x64, .f32⟩
  | .hbm, ⟨55, _⟩ => ⟨S8x64x1x1, .f32⟩
  | .hbm, ⟨56, _⟩ => ⟨S_, .f32⟩
  | .hbm, ⟨57, _⟩ => ⟨S8x64x1x1, .f32⟩
  | .hbm, ⟨58, _⟩ => ⟨S8x64x1x1, .f32⟩
  | .hbm, ⟨59, _⟩ => ⟨S8x64x256x256, .f32⟩
  | .hbm, ⟨60, _⟩ => ⟨S8x64x256x256, .f32⟩
  | .hbm, ⟨61, _⟩ => ⟨S8x64x256x256, .f32⟩
  | .hbm, ⟨62, _⟩ => ⟨S_, .f32⟩
  | .hbm, ⟨63, _⟩ => ⟨S8x64, .f32⟩
  | .hbm, ⟨64, _⟩ => ⟨S8x64x1x1, .f32⟩
  | .hbm, ⟨65, _⟩ => ⟨S_, .f32⟩
  | .hbm, ⟨66, _⟩ => ⟨S8x64x1x1, .f32⟩
  | .hbm, ⟨67, _⟩ => ⟨S8x64x1x1, .f32⟩
  | .hbm, ⟨68, _⟩ => ⟨S8x64x256x256, .f32⟩
  | .hbm, ⟨69, _⟩ => ⟨S8x64x256x256, .f32⟩
  | .hbm, ⟨70, _⟩ => ⟨S_, .f32⟩
  | .hbm, ⟨71, _⟩ => ⟨S8x64x1x1, .f32⟩
  | .hbm, ⟨72, _⟩ => ⟨S8x64x1x1, .f32⟩
  | .hbm, ⟨73, _⟩ => ⟨S8x64x1x1, .f32⟩
  | .hbm, ⟨74, _⟩ => ⟨S8x64x256x256, .f32⟩
  | .hbm, ⟨75, _⟩ => ⟨S8x64x256x256, .f32⟩
  | .hbm, ⟨76, _⟩ => ⟨S_, .f32⟩
  | .hbm, ⟨77, _⟩ => ⟨S8x64x256x256, .f32⟩
  | .hbm, ⟨78, _⟩ => ⟨S8x64x256x256, .f32⟩
  | .hbm, ⟨79, _⟩ => ⟨S8x64x256x256, .f32⟩
  | .hbm, ⟨80, _⟩ => ⟨S8x64x256x256, .f32⟩
  | .hbm, ⟨81, _⟩ => ⟨S_, .f32⟩
  | .hbm, ⟨82, _⟩ => ⟨S8x64x256x256, .f32⟩
  | .hbm, ⟨83, _⟩ => ⟨S8x64x256x256, .f32⟩
  | .hbm, ⟨84, _⟩ => ⟨S8x64x256x256, .f32⟩
  | _, _ => ⟨S8x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call1_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call2_v0 : Ref sig .tc := ⟨.hbm, 23, rfl⟩
abbrev main_v11 : Ref sig .tc := ⟨.hbm, 24, rfl⟩
abbrev main_call3_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_3 : Ref sig .tc := ⟨.hbm, 53, rfl⟩
abbrev main_v36 : Ref sig .tc := ⟨.hbm, 54, rfl⟩
abbrev main_v37 : Ref sig .tc := ⟨.hbm, 55, rfl⟩
abbrev main_cst_4 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_v44 : Ref sig .tc := ⟨.hbm, 64, rfl⟩
abbrev main_cst_6 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_7 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_8 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_9 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩

abbrev nD : Nat := 1
abbrev τ : Topo := Topo.v7x

variable {F : FTy → Type} [FloatOps F]
-- ==== Proof.Result.lean ====
/- The kernel's run, with its result named: after every execution the result buffer holds what the last host reshape
   leaves, read off the run's buffer contents at each segment boundary (`Gen.W9`), and the arguments are as launched. -/
module

public import proofs.«01_k».proof.Proof.Gen.KernelIdeal.Frame

@[expose] public section

set_option maxRecDepth 16384

noncomputable section

namespace Cert.KernelIdeal.Result

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch rule's implicit arguments are found by unifying its conclusion with the statement, which takes unfolding
-- plain definitions in a metavariable's type
set_option backward.isDefEq.respectTransparency.types false in
/-- Every execution of the kernel's program ends with each unscoped TensorCore buffer at the contents `Gen.W9` that the
    fold over the program's segments computes from the launch memory. -/
theorem buffers : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => h)

/-- Every execution of the kernel's program ends with the result buffer at `Gen.W9`'s contents and every argument
    unchanged. -/
theorem run : θ_run defs (onTc (τ := τ) (main (F := F))) ⟨m, fun _ => 0, ρ⟩ (fun r => ∀ c : Dev nD,
      r.2.mem ((c.tc : Thread nD τ).loc main_v56) = W9 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨h c _ (mem_uc main_v56 (by decide)),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c)⟩) (buffers m ρ)

end Cert.KernelIdeal.Result

end
-- ==== Proof.Stats.lean ====
/- What the first grid computes: for each batch and channel, the sum of the channel's 65536 entries and the sum of
   their squares. A grid point sees the channel in four quarters. -/
module

public import proofs.«01_k».proof.Proof.Gen.KernelIdeal.Frame
public import Idealize.ShloMosaic.Lib.Pipeline.ValueKit

@[expose] public section

set_option maxRecDepth 16384

noncomputable section

namespace Cert.KernelIdeal.Stats

open Idealize.ShloMosaic Idealize.ShloMosaic.TcCoe Idealize.SL.Sem
open Idealize.ShloMosaic.Pipeline (Dat)
open Cert.KernelIdeal Cert.KernelIdeal.Gen

/-- A sum over 65536 places is the sum over its four quarters. -/
theorem sum_quarters (g : Fin 65536 → EReal) (a b c d : Fin 16384 → EReal)
    (ha : ∀ k : Fin 16384, a k = g ⟨k.val, by omega⟩) (hb : ∀ k : Fin 16384, b k = g ⟨16384 + k.val, by omega⟩)
    (hc : ∀ k : Fin 16384, c k = g ⟨32768 + k.val, by omega⟩) (hd : ∀ k : Fin 16384, d k = g ⟨49152 + k.val, by omega⟩) :
    ∑ k, a k + ∑ k, b k + ∑ k, c k + ∑ k, d k = ∑ k, g k := by
  have e : ∑ k, g k = ∑ k : Fin (16384 + 16384 + 16384 + 16384), g k := rfl
  rw [e, Fin.sum_univ_add, Fin.sum_univ_add, Fin.sum_univ_add]
  simp only [ha, hb, hc, hd]
  rfl

/-- The sums over each channel of an array of images. -/
def sums (X : FVec Ideal S8x64x65536 .f32) : FVec Ideal S8x64x1 .f32 :=
  fun y => ∑ k : Fin 65536, X (ix3 (y 0) (y 1) k)

/-- The sums of squares over each channel of an array of images. -/
def squares (X : FVec Ideal S8x64x65536 .f32) : FVec Ideal S8x64x1 .f32 :=
  fun y => ∑ k : Fin 65536, X (ix3 (y 0) (y 1) k) * X (ix3 (y 0) (y 1) k)

/-- The block indices of the first grid's windows, over all its points. -/
theorem idx : ∀ t : Fin cfg0.N, win0_0.index t = ![t.val / 2, t.val % 2, 0] ∧ win0_1.index t = ![t.val / 2, t.val % 2, 1]
    ∧ win0_2.index t = ![t.val / 2, t.val % 2, 2] ∧ win0_3.index t = ![t.val / 2, t.val % 2, 3]
    ∧ win0_4.index t = ![t.val / 2, t.val % 2, 0] ∧ win0_5.index t = ![t.val / 2, t.val % 2, 0] :=
  (by decide +kernel : ∀ t : Fin grid0.N, _)

variable (V : (c : Dev nD) → (b : Ref sig .tc) → Buf (Elt Ideal) ((c : Thread nD τ).loc b))

/-- A block of sums: where the four blocks read are the quarters of a channel of `X`, the entry stored is the sum over
    that channel. -/
theorem point_sums (X : FVec Ideal S8x64x65536 .f32) (a b c d : Vec Ideal S1x32x16384 .f32) (y : S1x32x1.Idx) (j : S8x64x1.Idx)
    (ha : ∀ k : Fin 16384, a (ix3 0 (y 1) k) = X (ix3 (j 0) (j 1) (⟨k.val, by omega⟩ : Fin 65536)))
    (hb : ∀ k : Fin 16384, b (ix3 0 (y 1) k) = X (ix3 (j 0) (j 1) (⟨16384 + k.val, by omega⟩ : Fin 65536)))
    (hc : ∀ k : Fin 16384, c (ix3 0 (y 1) k) = X (ix3 (j 0) (j 1) (⟨32768 + k.val, by omega⟩ : Fin 65536)))
    (hd : ∀ k : Fin 16384, d (ix3 0 (y 1) k) = X (ix3 (j 0) (j 1) (⟨49152 + k.val, by omega⟩ : Fin 65536))) :
    k0_pay1 (k0_pay8 a b c d) y = sums X j := by
  pointwise [k0_pay1, k0_pay8, k0_pay3, k0_pay4, k0_pay5, k0_pay7]
  exact sum_quarters (fun k => X (ix3 (j 0) (j 1) k)) _ _ _ _ ha hb hc hd

/-- A block of sums of squares: where the four blocks read are the quarters of a channel of `X`, the entry stored is the
    sum of squares over that channel. -/
theorem point_squares (X : FVec Ideal S8x64x65536 .f32) (a b c d : Vec Ideal S1x32x16384 .f32) (y : S1x32x1.Idx) (j : S8x64x1.Idx)
    (ha : ∀ k : Fin 16384, a (ix3 0 (y 1) k) = X (ix3 (j 0) (j 1) (⟨k.val, by omega⟩ : Fin 65536)))
    (hb : ∀ k : Fin 16384, b (ix3 0 (y 1) k) = X (ix3 (j 0) (j 1) (⟨16384 + k.val, by omega⟩ : Fin 65536)))
    (hc : ∀ k : Fin 16384, c (ix3 0 (y 1) k) = X (ix3 (j 0) (j 1) (⟨32768 + k.val, by omega⟩ : Fin 65536)))
    (hd : ∀ k : Fin 16384, d (ix3 0 (y 1) k) = X (ix3 (j 0) (j 1) (⟨49152 + k.val, by omega⟩ : Fin 65536))) :
    k0_pay2 (k0_pay6 a b c) (k0_pay9 d) y = squares X j := by
  pointwise [k0_pay2, k0_pay6, k0_pay9, k0_pay3, k0_pay4, k0_pay5, k0_pay7]
  exact sum_quarters (fun k => X (ix3 (j 0) (j 1) k) * X (ix3 (j 0) (j 1) k)) _ _ _ _
    (fun k => congrArg (fun v : EReal => v * v) (ha k)) (fun k => congrArg (fun v : EReal => v * v) (hb k))
    (fun k => congrArg (fun v : EReal => v * v) (hc k)) (fun k => congrArg (fun v : EReal => v * v) (hd k))

set_option maxHeartbeats 1600000 in
/-- After the first grid its first result holds the channel sums. -/
theorem final_sums (c : Dev nD) : (dat0 V c).arrAt 4 cfg0.N = sums (V c main_v45) := by
  refine (dat0 V c).arrAt_eq_of_covers 4 _ (by decide +kernel) fun t _ y => ?_
  blk_simp
  rw [after0_4]
  frame_out
  refine point_sums (V c main_v45) (iblk0 V c 0 t) (iblk0 V c 1 t) (iblk0 V c 2 t) (iblk0 V c 3 t) y
    (((cfg0.win 4).blk t).view.emb y) ?_ ?_ ?_ ?_ <;> intro k
  all_goals blk_ext [iblk0, idx t]

set_option maxHeartbeats 1600000 in
/-- After the first grid its second result holds the channel sums of squares. -/
theorem final_squares (c : Dev nD) : (dat0 V c).arrAt 5 cfg0.N = squares (V c main_v45) := by
  refine (dat0 V c).arrAt_eq_of_covers 5 _ (by decide +kernel) fun t _ y => ?_
  blk_simp
  rw [after0_5]
  frame_out
  refine point_squares (V c main_v45) (iblk0 V c 0 t) (iblk0 V c 1 t) (iblk0 V c 2 t) (iblk0 V c 3 t) y
    (((cfg0.win 5).blk t).view.emb y) ?_ ?_ ?_ ?_ <;> intro k
  all_goals blk_ext [iblk0, idx t]

end Cert.KernelIdeal.Stats

end
-- ==== Proof.Fir.lean ====
/- What the second grid computes: each channel image, filtered and halved along its columns by one banded matrix and
   then along its rows by the other. -/
module

public import proofs.«01_k».proof.Proof.Gen.KernelIdeal.Frame
public import Idealize.ShloMosaic.Lib.Pipeline.ValueKit

@[expose] public section

set_option maxRecDepth 16384

noncomputable section

namespace Cert.KernelIdeal.Fir

open Idealize.ShloMosaic Idealize.ShloMosaic.TcCoe Idealize.SL.Sem
open Idealize.ShloMosaic.Pipeline (Dat)
open Cert.KernelIdeal Cert.KernelIdeal.Gen

/-- The filtered image: rows by `R`, columns by `C`. -/
def filtered (H : FVec Ideal S8x32x512x512 .f32) (R : FVec Ideal S256x512 .bf16) (C : FVec Ideal S512x256 .bf16) :
    FVec Ideal S8x32x256x256 .bf16 :=
  fun j => ∑ r : Fin 512, R (ix2 (j 2) r) * ∑ s : Fin 512, H (ix4 (j 0) (j 1) r s) * C (ix2 s (j 3))

/-- The block indices of the second grid's windows, over all its points. -/
theorem idx : ∀ t : Fin cfg1.N, win1_0.index t = ![t.val / 8, t.val % 8, 0, 0] ∧ win1_1.index t = ![0, 0]
    ∧ win1_2.index t = ![0, 0] ∧ win1_3.index t = ![t.val / 8, t.val % 8, 0, 0] :=
  (by decide +kernel : ∀ t : Fin grid1.N, _)

/-- The block after the column filter, at image `q` of the block. -/
theorem pay_columns (x : Vec Ideal S1x4x512x512 .f32) (C : Vec Ideal S512x256 .bf16) (q : Fin 4) (r : Fin 512) (p : Fin 256) :
    k1_pay3 x C (ix3 q r p) = ∑ s : Fin 512, x (ix4 0 q r s) * C (ix2 s p) := by
  pointwise [k1_pay3]

/-- The row filter of the block's image 0. -/
theorem pay_rows0 (x : Vec Ideal S1x4x512x512 .f32) (C : Vec Ideal S512x256 .bf16) (R : Vec Ideal S256x512 .bf16) (y : S1x1x256x256.Idx) :
    k1_pay4 x C R y = ∑ r : Fin 512, R (ix2 (y 2) r) * k1_pay3 x C (ix3 0 r (y 3)) := by
  pointwise [k1_pay4]

/-- The row filter of the block's image 1. -/
theorem pay_rows1 (x : Vec Ideal S1x4x512x512 .f32) (C : Vec Ideal S512x256 .bf16) (R : Vec Ideal S256x512 .bf16) (y : S1x1x256x256.Idx) :
    k1_pay5 x C R y = ∑ r : Fin 512, R (ix2 (y 2) r) * k1_pay3 x C (ix3 1 r (y 3)) := by
  pointwise [k1_pay5]

/-- The row filter of the block's image 2. -/
theorem pay_rows2 (x : Vec Ideal S1x4x512x512 .f32) (C : Vec Ideal S512x256 .bf16) (R : Vec Ideal S256x512 .bf16) (y : S1x1x256x256.Idx) :
    k1_pay1 (k1_pay6 x C R) y = ∑ r : Fin 512, R (ix2 (y 2) r) * k1_pay3 x C (ix3 2 r (y 3)) := by
  pointwise [k1_pay1, k1_pay6]

/-- The row filter of the block's image 3. -/
theorem pay_rows3 (x : Vec Ideal S1x4x512x512 .f32) (C : Vec Ideal S512x256 .bf16) (R : Vec Ideal S256x512 .bf16) (y : S1x1x256x256.Idx) :
    k1_pay2 (k1_pay3 x C) R y = ∑ r : Fin 512, R (ix2 (y 2) r) * k1_pay3 x C (ix3 3 r (y 3)) := by
  pointwise [k1_pay2]

variable (V : (c : Dev nD) → (b : Ref sig .tc) → Buf (Elt Ideal) ((c : Thread nD τ).loc b))

/-- A stored image: where the block's image `q` is channel `j` of `H`, the entry is the filtered image's. -/
theorem point (H : FVec Ideal S8x32x512x512 .f32) (R : FVec Ideal S256x512 .bf16) (C : FVec Ideal S512x256 .bf16)
    (x : Vec Ideal S1x4x512x512 .f32) (R' : Vec Ideal S256x512 .bf16) (C' : Vec Ideal S512x256 .bf16) (q : Fin 4)
    (y : S1x1x256x256.Idx) (j : S8x32x256x256.Idx) (hR : R' = R) (hC : C' = C) (h2 : (j 2).val = (y 2).val) (h3 : (j 3).val = (y 3).val)
    (hx : ∀ r s : Fin 512, x (ix4 0 q r s) = H (ix4 (j 0) (j 1) r s)) :
    ∑ r : Fin 512, R' (ix2 (y 2) r) * k1_pay3 x C' (ix3 q r (y 3)) = filtered H R C j := by
  subst hR hC
  have e2 : (j 2 : Fin 256) = y 2 := Fin.ext h2
  have e3 : (j 3 : Fin 256) = y 3 := Fin.ext h3
  unfold filtered
  refine Finset.sum_congr rfl fun r _ => congrArg₂ (fun a b : EReal => a * b) (congrArg (fun a : Fin 256 => R' (ix2 a r)) e2.symm) ?_
  refine (pay_columns x C' q r (y 3)).trans (Finset.sum_congr rfl fun s _ => ?_)
  exact congrArg₂ (fun a b : EReal => a * b) (hx r s) (congrArg (fun a : Fin 256 => C' (ix2 s a)) e3.symm)

variable (V : (c : Dev nD) → (b : Ref sig .tc) → Buf (Elt Ideal) ((c : Thread nD τ).loc b))

/-- The image block read whole. -/
theorem ld0 (c : Dev nD) (t : Fin cfg1.N) : View.ld (iblk1 V c 0 t) r1_0 = iblk1 V c 0 t :=
  View.ld_unit_zero (S := S1x4x512x512) (by funext a; fin_cases a <;> rfl) inb_S1x4x512x512_S1x4x512x512_0_0_0_0 _

/-- The row matrix, read whole at every point. -/
theorem ld1 (c : Dev nD) (t : Fin cfg1.N) : View.ld (iblk1 V c 1 t) r1_2 = V c main_v43 := by
  refine (View.ld_unit_zero (S := S256x512) (by funext a; fin_cases a <;> rfl) inb_S256x512_S256x512_0_0 _).trans ?_
  funext i
  blk_ext [iblk1, idx t]

/-- The column matrix, read whole at every point. -/
theorem ld2 (c : Dev nD) (t : Fin cfg1.N) : View.ld (iblk1 V c 2 t) r1_1 = V c main_v44 := by
  refine (View.ld_unit_zero (S := S512x256) (by funext a; fin_cases a <;> rfl) inb_S512x256_S512x256_0_0 _).trans ?_
  funext i
  blk_ext [iblk1, idx t]

set_option maxHeartbeats 1600000 in
/-- After the second grid its result holds the filtered image. -/
theorem final (c : Dev nD) : (dat1 V c).arrAt 3 cfg1.N = filtered (V c main_arg1) (V c main_v43) (V c main_v44) := by
  refine (dat1 V c).arrAt_eq_of_covers 3 _ (by decide +kernel) fun t _ y => ?_
  blk_simp
  rw [after1_3]
  canon_tiles x h
  · refine (pay_rows3 _ _ _ x).trans (point (V c main_arg1) (V c main_v43) (V c main_v44) _ _ _ 3 x _
      (ld1 V c t) (ld2 V c t) ?_ ?_ fun r s => (congrFun (ld0 V c t) _).trans ?_)
    · blk_simp [idx t] <;> try omega
    · blk_simp [idx t] <;> try omega
    · blk_ext [iblk1, idx t]
  · refine (pay_rows2 _ _ _ x).trans (point (V c main_arg1) (V c main_v43) (V c main_v44) _ _ _ 2 x _
      (ld1 V c t) (ld2 V c t) ?_ ?_ fun r s => (congrFun (ld0 V c t) _).trans ?_)
    · blk_simp [idx t] <;> try omega
    · blk_simp [idx t] <;> try omega
    · blk_ext [iblk1, idx t]
  · refine (pay_rows1 _ _ _ x).trans (point (V c main_arg1) (V c main_v43) (V c main_v44) _ _ _ 1 x _
      (ld1 V c t) (ld2 V c t) ?_ ?_ fun r s => (congrFun (ld0 V c t) _).trans ?_)
    · blk_simp [idx t] <;> try omega
    · blk_simp [idx t] <;> try omega
    · blk_ext [iblk1, idx t]
  · refine (pay_rows0 _ _ _ x).trans (point (V c main_arg1) (V c main_v43) (V c main_v44) _ _ _ 0 x _
      (ld1 V c t) (ld2 V c t) ?_ ?_ fun r s => (congrFun (ld0 V c t) _).trans ?_)
    · blk_simp [idx t] <;> try omega
    · blk_simp [idx t] <;> try omega
    · blk_ext [iblk1, idx t]

end Cert.KernelIdeal.Fir

end
-- ==== Proof.Formula.lean ====
/- The pieces of arithmetic the kernel and the reference share, as functions of numbers: the filter at stride two, the activation of the hidden
   layer, the two 1×1 convolutions, and the modulation of one normalised entry. -/
module

public import proofs.«01_k».proof.Proof.Gen.KernelIdeal
public import proofs.«01_k».proof.Proof.Gen.ReferenceIdeal
public import Idealize.ShloMosaic.Lib.Pointwise

@[expose] public section

noncomputable section

namespace Cert.Formula

open Idealize.ShloMosaic

/-- The map `H` padded by five zeros on every side, at padded position `(i, j)`. -/
def paddedAt (H : Fin 512 → Fin 512 → EReal) (i j : ℕ) : EReal :=
  if h : (5 ≤ i ∧ i - 5 < 512) ∧ 5 ≤ j ∧ j - 5 < 512 then H ⟨i - 5, h.1.2⟩ ⟨j - 5, h.2.2⟩ else 0

/-- The twelve by twelve filter `f`, reversed, over the padded map at stride two. -/
def downsampled (H : Fin 512 → Fin 512 → EReal) (f : Fin 12 → Fin 12 → EReal) (y x : Fin 256) : EReal :=
  ∑ k : Fin 12, ∑ m : Fin 12, paddedAt H (2 * y.val + k.val) (2 * x.val + m.val) * f k.rev m.rev

/-- The leaky rectifier with slope 0.2, times the gain (the two constants as the programs write them). -/
def activation (z : EReal) : EReal :=
  (if 0 ≤ z then z else z * Ideal.ofBits .f32 0x3E4CCCCD#32) * Ideal.ofBits .f32 0x3FB504F3#32

/-- A hidden unit over the 32 filtered channels. -/
def hiddenUnit (w : Fin 128 → Fin 32 → EReal) (b : Fin 128 → EReal) (d : Fin 32 → EReal) (n : Fin 128) : EReal :=
  activation (∑ l, w n l * d l + b n)

/-- An output channel over the 128 hidden units. -/
def mixed (w : Fin 64 → Fin 128 → EReal) (b : Fin 64 → EReal) (h : Fin 128 → EReal) (c : Fin 64) : EReal :=
  ∑ n, w c n * h n + b c

/-- One entry normalised by its channel's mean and variance, scaled, shifted, and a tenth of itself added. -/
def modulate (x mean var gamma beta : EReal) : EReal :=
  (x - mean) * Ideal.rsqrt (var + Ideal.ofBits .f32 0x3727C5AC#32) * (1 + gamma) + beta + Ideal.ofBits .f32 0x3DCCCCCD#32 * x

end Cert.Formula

end
-- ==== Proof.Mod.lean ====
/- What the third grid computes: the two 1×1 convolutions of the filtered image's activations, and with them the
   modulated, normalised input. -/
module

public import proofs.«01_k».proof.Proof.Gen.KernelIdeal.Frame
public import Idealize.ShloMosaic.Lib.Pipeline.ValueKit
public import proofs.«01_k».proof.Proof.Formula

@[expose] public section

set_option maxRecDepth 16384

noncomputable section

namespace Cert.KernelIdeal.Mod

open Idealize.ShloMosaic Idealize.ShloMosaic.TcCoe Idealize.SL.Sem
open Idealize.ShloMosaic.Pipeline (Dat)
open Cert.KernelIdeal Cert.KernelIdeal.Gen Cert.Formula

/-- The block indices of the third grid's windows, over all its points. -/
theorem idx : ∀ t : Fin cfg2.N, win2_0.index t = ![t.val / 8, 0, t.val % 8] ∧ win2_1.index t = ![t.val / 8, 0, t.val % 8]
    ∧ win2_2.index t = ![t.val / 8, 0, 0] ∧ win2_3.index t = ![t.val / 8, 0, 0]
    ∧ win2_4.index t = ![0, 0] ∧ win2_5.index t = ![0, 0] ∧ win2_6.index t = ![0, 0] ∧ win2_7.index t = ![0, 0]
    ∧ win2_8.index t = ![0, 0] ∧ win2_9.index t = ![0, 0] ∧ win2_10.index t = ![t.val / 8, 0, t.val % 8] :=
  (by decide +kernel : ∀ t : Fin grid2.N, _)

/-- The hidden units at a place of the block. -/
theorem pay_hidden (a : Vec Ideal S1x32x8192 .bf16) (w : Vec Ideal S128x32 .bf16) (b : Vec Ideal S128x1 .f32) (n : Fin 128) (p : Fin 8192) :
    k2_pay2 a w b (ix2 n p) = hiddenUnit (fun n l => w (ix2 n l)) (fun n => b (ix2 n 0)) (fun l => a (ix3 0 l p)) n := by
  pointwise [k2_pay2, hiddenUnit, activation]

/-- The scale at a place of the block. -/
theorem pay_gamma (a : Vec Ideal S1x32x8192 .bf16) (w : Vec Ideal S128x32 .bf16) (b : Vec Ideal S128x1 .f32)
    (g : Vec Ideal S64x128 .bf16) (e : Vec Ideal S64x1 .f32) (k : Fin 64) (p : Fin 8192) :
    k2_pay3 a w b g e (ix2 k p) = mixed (fun k n => g (ix2 k n)) (fun k => e (ix2 k 0)) (fun n => k2_pay2 a w b (ix2 n p)) k := by
  pointwise [k2_pay3, mixed]

/-- The shift at a place of the block. -/
theorem pay_beta (a : Vec Ideal S1x32x8192 .bf16) (w : Vec Ideal S128x32 .bf16) (b : Vec Ideal S128x1 .f32)
    (g : Vec Ideal S64x128 .bf16) (e : Vec Ideal S64x1 .f32) (k : Fin 64) (p : Fin 8192) :
    k2_pay4 a w b g e (ix2 k p) = mixed (fun k n => g (ix2 k n)) (fun k => e (ix2 k 0)) (fun n => k2_pay2 a w b (ix2 n p)) k := by
  pointwise [k2_pay4, mixed]

/-- The image block as a matrix. -/
theorem pay_image (x : Vec Ideal S1x64x8192 .f32) (k : Fin 64) (p : Fin 8192) : k2_pay5 x (ix2 k p) = x (ix3 0 k p) := by
  pointwise [k2_pay5]

/-- The block stored, from the scale, the shift, the image and the two channel sums. -/
theorem pay_out (g b x : FVec Ideal S64x8192 .f32) (s q : Vec Ideal S1x64x1 .f32) (y : S1x64x8192.Idx) :
    k2_pay1 g b x s q y = modulate (x (ix2 (y 1) (y 2))) (s (ix3 0 (y 1) 0) * Ideal.ofBits .f32 0x37800000#32)
      (q (ix3 0 (y 1) 0) * Ideal.ofBits .f32 0x37800000#32
        - s (ix3 0 (y 1) 0) * Ideal.ofBits .f32 0x37800000#32 * (s (ix3 0 (y 1) 0) * Ideal.ofBits .f32 0x37800000#32))
      (g (ix2 (y 1) (y 2))) (b (ix2 (y 1) (y 2))) := by
  pointwise [k2_pay1, modulate]

/-- The result of the third grid, from the filtered image `H`, the image `X`, the channel sums `s` and sums of squares
    `q`, and the weights and biases. -/
def modulated (H : FVec Ideal S8x32x65536 .bf16) (X : FVec Ideal S8x64x65536 .f32) (s q : FVec Ideal S8x64x1 .f32)
    (ws : FVec Ideal S128x32 .bf16) (bs : FVec Ideal S128x1 .f32) (wg : FVec Ideal S64x128 .bf16) (bg : FVec Ideal S64x1 .f32)
    (wb : FVec Ideal S64x128 .bf16) (bb : FVec Ideal S64x1 .f32) : FVec Ideal S8x64x65536 .f32 := fun j =>
  modulate (X (ix3 (j 0) (j 1) (j 2))) (s (ix3 (j 0) (j 1) 0) * Ideal.ofBits .f32 0x37800000#32)
    (q (ix3 (j 0) (j 1) 0) * Ideal.ofBits .f32 0x37800000#32
      - s (ix3 (j 0) (j 1) 0) * Ideal.ofBits .f32 0x37800000#32 * (s (ix3 (j 0) (j 1) 0) * Ideal.ofBits .f32 0x37800000#32))
    (mixed (fun k n => wg (ix2 k n)) (fun k => bg (ix2 k 0))
      (hiddenUnit (fun n l => ws (ix2 n l)) (fun n => bs (ix2 n 0)) (fun l => H (ix3 (j 0) l (j 2)))) (j 1))
    (mixed (fun k n => wb (ix2 k n)) (fun k => bb (ix2 k 0))
      (hiddenUnit (fun n l => ws (ix2 n l)) (fun n => bs (ix2 n 0)) (fun l => H (ix3 (j 0) l (j 2)))) (j 1))

/-- A stored entry: where the blocks read are the parts of the arrays belonging to `j`, it is the result's entry. -/
theorem point (H : FVec Ideal S8x32x65536 .bf16) (X : FVec Ideal S8x64x65536 .f32) (s q : FVec Ideal S8x64x1 .f32)
    (ws : FVec Ideal S128x32 .bf16) (bs : FVec Ideal S128x1 .f32) (wg : FVec Ideal S64x128 .bf16) (bg : FVec Ideal S64x1 .f32)
    (wb : FVec Ideal S64x128 .bf16) (bb : FVec Ideal S64x1 .f32)
    (a : Vec Ideal S1x32x8192 .bf16) (x : Vec Ideal S1x64x8192 .f32) (s' q' : Vec Ideal S1x64x1 .f32)
    (ws' : Vec Ideal S128x32 .bf16) (bs' : Vec Ideal S128x1 .f32) (wg' : Vec Ideal S64x128 .bf16) (bg' : Vec Ideal S64x1 .f32)
    (wb' : Vec Ideal S64x128 .bf16) (bb' : Vec Ideal S64x1 .f32) (y : S1x64x8192.Idx) (j : S8x64x65536.Idx)
    (hws : ws' = ws) (hbs : bs' = bs) (hwg : wg' = wg) (hbg : bg' = bg) (hwb : wb' = wb) (hbb : bb' = bb)
    (h1 : (j 1).val = (y 1).val) (hH : ∀ l : Fin 32, a (ix3 0 l (y 2)) = H (ix3 (j 0) l (j 2)))
    (hX : x (ix3 0 (y 1) (y 2)) = X (ix3 (j 0) (j 1) (j 2))) (hs : s' (ix3 0 (y 1) 0) = s (ix3 (j 0) (j 1) 0))
    (hq : q' (ix3 0 (y 1) 0) = q (ix3 (j 0) (j 1) 0)) :
    k2_pay1 (k2_pay3 a ws' bs' wg' bg') (k2_pay4 a ws' bs' wb' bb') (k2_pay5 x) s' q' y
      = modulated H X s q ws bs wg bg wb bb j := by
  subst hws hbs hwg hbg hwb hbb
  have e1 : (j 1 : Fin 64) = y 1 := Fin.ext h1
  have hh : (fun n : Fin 128 => k2_pay2 a ws' bs' (ix2 n (y 2)))
      = hiddenUnit (fun n l => ws' (ix2 n l)) (fun n => bs' (ix2 n 0)) (fun l => H (ix3 (j 0) l (j 2))) := by
    funext n
    refine (pay_hidden a ws' bs' n (y 2)).trans ?_
    exact congrArg (fun d => hiddenUnit _ _ d n) (funext hH)
  have hg : k2_pay3 a ws' bs' wg' bg' (ix2 (y 1) (y 2)) = _ := pay_gamma a ws' bs' wg' bg' (y 1) (y 2)
  have hb : k2_pay4 a ws' bs' wb' bb' (ix2 (y 1) (y 2)) = _ := pay_beta a ws' bs' wb' bb' (y 1) (y 2)
  have hi : k2_pay5 x (ix2 (y 1) (y 2)) = _ := (pay_image x (y 1) (y 2)).trans hX
  rw [hh, ← e1] at hg hb
  rw [← e1] at hi hs hq
  refine (pay_out _ _ _ _ _ y).trans ?_
  unfold modulated
  rw [← e1, hg, hb, hi, hs, hq]

variable (V : (c : Dev nD) → (b : Ref sig .tc) → Buf (Elt Ideal) ((c : Thread nD τ).loc b))

/-- The hidden layer's weights, read whole at every point. -/
theorem whole4 (c : Dev nD) (t : Fin cfg2.N) : iblk2 V c 4 t = V c main_v49 := by
  funext i
  blk_ext [iblk2, idx t]

/-- The hidden layer's biases, read whole at every point. -/
theorem whole5 (c : Dev nD) (t : Fin cfg2.N) : iblk2 V c 5 t = V c main_v52 := by
  funext i
  blk_ext [iblk2, idx t]

/-- The scale's weights, read whole at every point. -/
theorem whole6 (c : Dev nD) (t : Fin cfg2.N) : iblk2 V c 6 t = V c main_v50 := by
  funext i
  blk_ext [iblk2, idx t]

/-- The scale's biases, read whole at every point. -/
theorem whole7 (c : Dev nD) (t : Fin cfg2.N) : iblk2 V c 7 t = V c main_v53 := by
  funext i
  blk_ext [iblk2, idx t]

/-- The shift's weights, read whole at every point. -/
theorem whole8 (c : Dev nD) (t : Fin cfg2.N) : iblk2 V c 8 t = V c main_v51 := by
  funext i
  blk_ext [iblk2, idx t]

/-- The shift's biases, read whole at every point. -/
theorem whole9 (c : Dev nD) (t : Fin cfg2.N) : iblk2 V c 9 t = V c main_v54 := by
  funext i
  blk_ext [iblk2, idx t]

set_option maxHeartbeats 1600000 in
/-- After the third grid its result holds the modulated image. -/
theorem final (c : Dev nD) : (dat2 V c).arrAt 10 cfg2.N = modulated (V c main_v48) (V c main_v45) (V c main_v46_0) (V c main_v46_1)
    (V c main_v49) (V c main_v52) (V c main_v50) (V c main_v53) (V c main_v51) (V c main_v54) := by
  refine (dat2 V c).arrAt_eq_of_covers 10 _ (by decide +kernel) fun t _ y => ?_
  blk_simp
  rw [after2_10]
  frame_out
  refine point (V c main_v48) (V c main_v45) (V c main_v46_0) (V c main_v46_1)
    (V c main_v49) (V c main_v52) (V c main_v50) (V c main_v53) (V c main_v51) (V c main_v54) (iblk2 V c 0 t) (iblk2 V c 1 t)
    (iblk2 V c 2 t) (iblk2 V c 3 t) (iblk2 V c 4 t) (iblk2 V c 5 t) (iblk2 V c 6 t) (iblk2 V c 7 t) (iblk2 V c 8 t) (iblk2 V c 9 t)
    y (((cfg2.win 10).blk t).view.emb y) (whole4 V c t) (whole5 V c t) (whole6 V c t) (whole7 V c t)
    (whole8 V c t) (whole9 V c t) ?_ (fun l => ?_) ?_ ?_ ?_
  · blk_simp [idx t] <;> try omega
  all_goals blk_ext [iblk2, idx t]

end Cert.KernelIdeal.Mod

end
-- ==== Proof.Tables.lean ====
/- The kernel's three constant index tables. Entry `n` of the tables names one non-zero place of the banded matrices:
   input position `row n`, output position `col n`, filter tap `tap n`, with `row + 5 = 2 * col + tap`; and every such
   triple inside the matrices is listed. -/
module

public import proofs.«01_k».proof.Proof.Gen.KernelIdeal

@[expose] public section

set_option maxRecDepth 16384

noncomputable section

namespace Cert.KernelIdeal.Tables

open Cert.KernelIdeal

/-- The filter tap, input position and output position of entry `n`. -/
abbrev tap (n : Fin 3054) : ℕ := (lit0 n).toNat
abbrev row (n : Fin 3054) : ℕ := (lit1 n).toNat
abbrev col (n : Fin 3054) : ℕ := (lit2 n).toNat

/-- Each entry names a tap below 12, an input position below 512 and an output position below 256, and the input
    position is twice the output position plus the tap less the padding of five. -/
theorem entry : ∀ n : Fin 3054, tap n < 12 ∧ row n < 512 ∧ col n < 256 ∧ row n + 5 = 2 * col n + tap n := by
  decide +kernel

/-- Where the entry of output position `o` and tap `k` lies in the tables. -/
def place (o k : ℕ) : ℕ :=
  if o = 0 then k - 5 else if o = 1 then 4 + k else if o = 2 then 15 + k
  else if o ≤ 253 then 12 * o + k - 9 else if o = 254 then 3038 + k else 3047 + k

/-- Every output position and tap whose input position is inside the image is listed, at `place`. -/
theorem listed : ∀ o : Fin 256, ∀ k : Fin 12, 5 ≤ 2 * o.val + k.val → 2 * o.val + k.val < 517 →
    ∃ h : place o.val k.val < 3054, tap ⟨place o.val k.val, h⟩ = k.val ∧ col ⟨place o.val k.val, h⟩ = o.val := by
  decide +kernel

end Cert.KernelIdeal.Tables

end
-- ==== Proof.Bands.lean ====
/- The two banded matrices: a scatter of a filter's taps at the tables' places is the matrix of a filter that steps
   by two over an image padded by five. -/
module

public import Idealize.ShloMosaic.Lib.Routing.OpsPair
public import Idealize.ShloMosaic.Lib.Routing.OpsSet
public import Idealize.ShloMosaic.Lib.Routing.OpsSearch
public import Idealize.ShloMosaic.Lib.Pointwise
public import proofs.«01_k».proof.Proof.Tables

@[expose] public section

set_option maxRecDepth 16384

noncomputable section

namespace Cert.KernelIdeal.Bands

open Idealize.ShloMosaic Idealize.ShloMosaic.Routing Cert.KernelIdeal Cert.KernelIdeal.Tables

/-- The weight that a filter of twelve taps, stepping by two over an image padded by five, gives input position `i` in output position `o`. -/
def band (v : Fin 12 → EReal) (i o : ℕ) : EReal :=
  if h : 2 * o ≤ i + 5 ∧ i + 5 - 2 * o < 12 then v ⟨i + 5 - 2 * o, h.2⟩ else 0

/-- Update `p` of a scatter of scalars into a matrix, two index words each, lands at `(r, c)` exactly when its words, read signed, are `r` and `c`. -/
theorem lands {R C n w : Nat} (d : ScatterDims (shape2 R C) (shape2 n 2) (shape1 n)) (hiw : d.insertedWindowDims = [0, 1])
    (hsd : d.scatterDimsToOperandDims = [0, 1]) (hivd : d.indexVectorDim = 1) (idx : IVec (shape2 n 2) w) (p : Fin n) (r : Fin R) (c : Fin C) :
    d.resultIdx? (ix1 p) idx = some (ix2 r c) ↔ (idx (ix2 p (0 : Fin 2))).toInt = r.val ∧ (idx (ix2 p (1 : Fin 2))).toInt = c.val := by
  have huw : d.updateWindowDims = [] := List.eq_nil_of_length_eq_zero (by
    rw [d.window_length]
    show ((shape2 R C).kept d.insertedWindowDims).length = 0
    rw [hiw]
    rfl)
  have hm : ∀ q : Fin 2, q ∈ d.scatterDimsToOperandDims := fun q => by rw [hsd]; fin_cases q <;> simp
  have hwin : ∀ q : Fin 2, d.window (ix1 p) q = 0 := fun q => by
    unfold ScatterDims.window
    rw [dif_neg fun h => (of_decide_eq_true (List.mem_filter.1 h).2) (by rw [hiw]; fin_cases q <;> simp)]
  have hsi : ∀ q : Fin 2, d.siIdx (ix1 p) ⟨d.scatterDimsToOperandDims.idxOf q, List.idxOf_lt_length_iff.2 (hm q)⟩ = ix2 p q := fun q => by
    funext b'
    apply Fin.ext
    match b' with
    | ⟨0, _⟩ =>
      unfold ScatterDims.siIdx
      rw [dif_neg (by rw [hivd]; exact (by decide : (0 : ℕ) ≠ 1))]
      unfold ScatterDims.siCoord
      simp only [Fin.val_cast]
      exact congrArg (fun t => ((ix1 p : (shape1 n).Idx) t).val) (Subsingleton.elim (α := Fin 1) _ 0)
    | ⟨1, _⟩ =>
      unfold ScatterDims.siIdx
      rw [dif_pos (by rw [hivd])]
      show List.idxOf q d.scatterDimsToOperandDims = q.val
      rw [hsd]
      fin_cases q <;> rfl
  have hstart : ∀ q : Fin 2, d.start (ix1 p) idx q = (idx (ix2 p q)).toInt := fun q => by
    unfold ScatterDims.start
    rw [dif_pos (hm q), hsi]
  refine (resultIdx?_ix2 d (ix1 p) idx r c).trans ?_
  rw [hstart, hstart, hwin, hwin]
  omega

/-- The tables' words read signed are the positions they name. -/
theorem row_signed (n : Fin 3054) : (lit1 n).toInt = (row n : ℤ) :=
  BitVec.toInt_eq_toNat_of_lt (by have h : (lit1 n).toNat < 512 := (entry n).2.1; omega)
theorem col_signed (n : Fin 3054) : (lit2 n).toInt = (col n : ℤ) :=
  BitVec.toInt_eq_toNat_of_lt (by have h : (lit2 n).toNat < 256 := (entry n).2.2.1; omega)

/-- A take of a filter's taps at the first table. -/
theorem taps (x : FVec Ideal S12 .f32) (idx : IVec S3054x1 32) (hi : ∀ n : Fin 3054, idx (ix2 n (0 : Fin 1)) = lit0 n) (n : Fin 3054) :
    Host.gather gather_S12_S3054x1_S3054_n_0_n_n_0_1_1 x idx (ix1 n) = x (ix1 ⟨tap n, (entry n).1⟩) :=
  gather_take1 gather_S12_S3054x1_S3054_n_0_n_n_0_1_1 rfl rfl rfl rfl x idx n ⟨tap n, (entry n).1⟩
    ((hi n).trans ((BitVec.ofNat_toNat 32 (lit0 n)).trans (BitVec.setWidth_eq _)).symm) (by norm_num)

/-- Scattered with input positions down the rows, the taps make the banded matrix. -/
theorem tall (v : Fin 12 → EReal) (z : FVec Ideal S512x256 .f32) (idx : IVec S3054x2 32) (u : FVec Ideal S3054 .f32)
    (hz : ∀ i o, z (ix2 i o) = 0) (h0 : ∀ n : Fin 3054, idx (ix2 n (0 : Fin 2)) = lit1 n) (h1 : ∀ n : Fin 3054, idx (ix2 n (1 : Fin 2)) = lit2 n)
    (hu : ∀ n : Fin 3054, u (ix1 n) = v ⟨tap n, (entry n).1⟩) (i : Fin 512) (o : Fin 256) :
    Host.scatter scatter_S512x256_S3054x2_S3054_n_01_01_1 (fun _ b => b) z idx u (ix2 i o) = band v i o := by
  have hl : ∀ n : Fin 3054, scatter_S512x256_S3054x2_S3054_n_01_01_1.resultIdx? (ix1 n) idx = some (ix2 i o) ↔ row n = i.val ∧ col n = o.val := fun n => by
    rw [show _ ↔ _ from lands scatter_S512x256_S3054x2_S3054_n_01_01_1 rfl rfl rfl idx n i o, h0, h1, row_signed, col_signed]
    omega
  unfold band
  by_cases h : 2 * o.val ≤ i.val + 5 ∧ i.val + 5 - 2 * o.val < 12
  · rw [dif_pos h]
    obtain ⟨hp, ht, hc⟩ := listed o ⟨i.val + 5 - 2 * o.val, h.2⟩ (by show 5 ≤ 2 * o.val + (i.val + 5 - 2 * o.val); omega)
      (by show 2 * o.val + (i.val + 5 - 2 * o.val) < 517; have := i.isLt; omega)
    refine scatter_set_hit _ z idx u _ _ (fun k hk => ?_) (ix1 ⟨_, hp⟩) ((hl _).2 ⟨?_, hc⟩)
    · obtain ⟨n, rfl⟩ : ∃ n : Fin 3054, k = ix1 n := ⟨k 0, eq_ix1 k⟩
      obtain ⟨hr, hc'⟩ := (hl n).1 hk
      rw [hu]
      have e := (entry n).2.2.2
      exact congrArg v (Fin.ext (by show tap n = i.val + 5 - 2 * o.val; omega))
    · have e := (entry ⟨_, hp⟩).2.2.2
      rw [ht, hc] at e
      have e' : row ⟨place o.val (i.val + 5 - 2 * o.val), hp⟩ + 5 = 2 * o.val + (i.val + 5 - 2 * o.val) := e
      show row ⟨place o.val (i.val + 5 - 2 * o.val), hp⟩ = i.val
      omega
  · rw [dif_neg h]
    refine (scatter_set_miss _ z idx u _ fun k hk => h ?_).trans (hz i o)
    obtain ⟨n, rfl⟩ : ∃ n : Fin 3054, k = ix1 n := ⟨k 0, eq_ix1 k⟩
    obtain ⟨hr, hc'⟩ := (hl n).1 hk
    have e := entry n
    omega

/-- Scattered with output positions down the rows, the taps make the banded matrix's transpose. -/
theorem wide (v : Fin 12 → EReal) (z : FVec Ideal S256x512 .f32) (idx : IVec S3054x2 32) (u : FVec Ideal S3054 .f32)
    (hz : ∀ o i, z (ix2 o i) = 0) (h0 : ∀ n : Fin 3054, idx (ix2 n (0 : Fin 2)) = lit2 n) (h1 : ∀ n : Fin 3054, idx (ix2 n (1 : Fin 2)) = lit1 n)
    (hu : ∀ n : Fin 3054, u (ix1 n) = v ⟨tap n, (entry n).1⟩) (o : Fin 256) (i : Fin 512) :
    Host.scatter scatter_S256x512_S3054x2_S3054_n_01_01_1 (fun _ b => b) z idx u (ix2 o i) = band v i o := by
  have hl : ∀ n : Fin 3054, scatter_S256x512_S3054x2_S3054_n_01_01_1.resultIdx? (ix1 n) idx = some (ix2 o i) ↔ col n = o.val ∧ row n = i.val := fun n => by
    rw [show _ ↔ _ from lands scatter_S256x512_S3054x2_S3054_n_01_01_1 rfl rfl rfl idx n o i, h0, h1, row_signed, col_signed]
    omega
  unfold band
  by_cases h : 2 * o.val ≤ i.val + 5 ∧ i.val + 5 - 2 * o.val < 12
  · rw [dif_pos h]
    obtain ⟨hp, ht, hc⟩ := listed o ⟨i.val + 5 - 2 * o.val, h.2⟩ (by show 5 ≤ 2 * o.val + (i.val + 5 - 2 * o.val); omega)
      (by show 2 * o.val + (i.val + 5 - 2 * o.val) < 517; have := i.isLt; omega)
    refine scatter_set_hit _ z idx u _ _ (fun k hk => ?_) (ix1 ⟨_, hp⟩) ((hl _).2 ⟨hc, ?_⟩)
    · obtain ⟨n, rfl⟩ : ∃ n : Fin 3054, k = ix1 n := ⟨k 0, eq_ix1 k⟩
      obtain ⟨hc', hr⟩ := (hl n).1 hk
      rw [hu]
      have e := (entry n).2.2.2
      exact congrArg v (Fin.ext (by show tap n = i.val + 5 - 2 * o.val; omega))
    · have e := (entry ⟨_, hp⟩).2.2.2
      rw [ht, hc] at e
      have e' : row ⟨place o.val (i.val + 5 - 2 * o.val), hp⟩ + 5 = 2 * o.val + (i.val + 5 - 2 * o.val) := e
      show row ⟨place o.val (i.val + 5 - 2 * o.val), hp⟩ = i.val
      omega
  · rw [dif_neg h]
    refine (scatter_set_miss _ z idx u _ fun k hk => h ?_).trans (hz o i)
    obtain ⟨n, rfl⟩ : ∃ n : Fin 3054, k = ix1 n := ⟨k 0, eq_ix1 k⟩
    obtain ⟨hc', hr⟩ := (hl n).1 hk
    have e := entry n
    omega

end Cert.KernelIdeal.Bands

end
-- ==== Proof.Weights.lean ====
/- What the kernel's host operations before its first launch leave: the two banded matrices of the factorised filter,
   and the first argument with its image flattened. -/
module

public import Idealize.ShloMosaic.Lib.Pointwise
public import Idealize.ShloMosaic.Lib.StableHlo.ReadAt
public import proofs.«01_k».proof.Proof.Gen.KernelIdeal.Frame
public import proofs.«01_k».proof.Proof.Bands

@[expose] public section

set_option maxRecDepth 16384

noncomputable section

namespace Cert.KernelIdeal.Weights

open Idealize.ShloMosaic Idealize.ShloMosaic.TcCoe Cert.KernelIdeal Cert.KernelIdeal.Gen Cert.KernelIdeal.Bands

/-- The sum of a filter's entries. -/
def total (f : FVec Ideal S12x12 .f32) : EReal := ∑ i : Fin 12, ∑ j : Fin 12, f (ix2 i j)

/-- The factor of a filter along its rows, reversed: the row sums over the root of the total. -/
def rowTaps (f : FVec Ideal S12x12 .f32) (k : Fin 12) : EReal := Ideal.div (∑ j : Fin 12, f (ix2 k.rev j)) (Ideal.sqrt (total f))

/-- The factor of a filter along its columns, reversed: the column sums over the root of the total. -/
def columnTaps (f : FVec Ideal S12x12 .f32) (k : Fin 12) : EReal := Ideal.div (∑ i : Fin 12, f (ix2 i k.rev)) (Ideal.sqrt (total f))

/-- A table's entry `n` lies at place `n` of its elements. -/
theorem rowMajor_entry (n : Fin 3054) : S3054.rowMajor (ix1 n) = n :=
  Fin.ext (Shape.rowMajor_val_one (ix1 n))

variable (m : (ℓ : Loc nD τ sig) → Buf (Elt Ideal) ℓ) (ρ : Dev nD → PrngReg)

/-- The matrix the columns are filtered with. -/
theorem tall_matrix (c : Dev nD) (i : Fin 512) (o : Fin 256) :
    (W4 (F := Ideal) m ρ c (Proc.devRef .tc main_v44) : FVec Ideal S512x256 .bf16) (ix2 i o)
      = band (columnTaps (m ((c : Thread nD τ).loc main_arg2))) i o := by
  after_results
  pointwise
  refine tall _ _ _ _ ?_ ?_ ?_ ?_ i o
  · intro i o
    pointwise
  · intro n
    pointwise
    exact congrArg lit1 (rowMajor_entry n)
  · intro n
    pointwise
    exact congrArg lit2 (rowMajor_entry n)
  · intro n
    refine (taps _ _ ?_ n).trans ?_
    · intro n
      pointwise
      exact congrArg lit0 (rowMajor_entry n)
    · simp only [StableHlo.TRef.toBuf, StableHlo.TRef.ofBuf, cast_eq]
      pointwise [columnTaps, total]
      simp only [List.mem_singleton, if_true]
      rfl

/-- The matrix the rows are filtered with. -/
theorem wide_matrix (c : Dev nD) (o : Fin 256) (i : Fin 512) :
    (W4 (F := Ideal) m ρ c (Proc.devRef .tc main_v43) : FVec Ideal S256x512 .bf16) (ix2 o i)
      = band (rowTaps (m ((c : Thread nD τ).loc main_arg2))) i o := by
  after_results
  pointwise
  refine wide _ _ _ _ ?_ ?_ ?_ ?_ o i
  · intro o i
    pointwise
  · intro n
    pointwise
    exact congrArg lit2 (rowMajor_entry n)
  · intro n
    pointwise
    exact congrArg lit1 (rowMajor_entry n)
  · intro n
    refine (taps _ _ ?_ n).trans ?_
    · intro n
      pointwise
      exact congrArg lit0 (rowMajor_entry n)
    · simp only [StableHlo.TRef.toBuf, StableHlo.TRef.ofBuf, cast_eq]
      pointwise [rowTaps, total]
      simp only [List.mem_singleton, if_true]
      rfl

/-- The first argument with its image flattened. -/
theorem flat_image (c : Dev nD) (b : Fin 8) (ch : Fin 64) (p : Fin 65536) :
    (W4 (F := Ideal) m ρ c (Proc.devRef .tc main_v45) : FVec Ideal S8x64x65536 .f32) (ix3 b ch p)
      = (m ((c : Thread nD τ).loc main_arg0) : FVec Ideal S8x64x256x256 .f32)
          (ix4 b ch ⟨p.val / 256, by have := p.isLt; omega⟩ ⟨p.val % 256, Nat.mod_lt _ (by norm_num)⟩) := by
  after_results
  pointwise

end Cert.KernelIdeal.Weights

end
-- ==== Proof.KernelValue.lean ====
/- What the kernel's result buffer holds after a run, entry by entry, in the arguments alone. -/
module

public import Idealize.ShloMosaic.Lib.Pointwise
public import Idealize.ShloMosaic.Lib.StableHlo.ReadAt
public import proofs.«01_k».proof.Proof.Stats
public import proofs.«01_k».proof.Proof.Fir
public import proofs.«01_k».proof.Proof.Mod
public import proofs.«01_k».proof.Proof.Weights

@[expose] public section

set_option maxRecDepth 16384

noncomputable section

namespace Cert.KernelIdeal.Total

open Idealize.ShloMosaic Idealize.ShloMosaic.TcCoe Cert.KernelIdeal Cert.KernelIdeal.Gen Cert.KernelIdeal.Bands Cert.KernelIdeal.Weights
open Cert.Formula

/-- Where entry `p` of a flattened image lies in the image. -/
abbrev line (p : Fin 65536) : Fin 256 := ⟨p.val / 256, by have := p.isLt; omega⟩
abbrev place (p : Fin 65536) : Fin 256 := ⟨p.val % 256, Nat.mod_lt _ (by norm_num)⟩

/-- The filtered image as the kernel computes it: the columns filtered first, then the rows. -/
def separated (H : FVec Ideal S8x32x512x512 .f32) (f : FVec Ideal S12x12 .f32) (b : Fin 8) (l : Fin 32) (y x : Fin 256) : EReal :=
  ∑ r : Fin 512, band (rowTaps f) r y * ∑ s : Fin 512, H (ix4 b l r s) * band (columnTaps f) s x

/-- A channel's entries and their squares summed. -/
def sum1 (X : FVec Ideal S8x64x256x256 .f32) (b : Fin 8) (c : Fin 64) : EReal := ∑ p : Fin 65536, X (ix4 b c (line p) (place p))
def sum2 (X : FVec Ideal S8x64x256x256 .f32) (b : Fin 8) (c : Fin 64) : EReal :=
  ∑ p : Fin 65536, X (ix4 b c (line p) (place p)) * X (ix4 b c (line p) (place p))

variable (m : (ℓ : Loc nD τ sig) → Buf (Elt Ideal) ℓ) (ρ : Dev nD → PrngReg)

/-- The arguments as launched. -/
abbrev a0 (c : Dev nD) : FVec Ideal S8x64x256x256 .f32 := m ((c : Thread nD τ).loc main_arg0)
abbrev a1 (c : Dev nD) : FVec Ideal S8x32x512x512 .f32 := m ((c : Thread nD τ).loc main_arg1)
abbrev a2 (c : Dev nD) : FVec Ideal S12x12 .f32 := m ((c : Thread nD τ).loc main_arg2)
abbrev a3 (c : Dev nD) : FVec Ideal S128x32 .f32 := m ((c : Thread nD τ).loc main_arg3)
abbrev a4 (c : Dev nD) : FVec Ideal S128 .f32 := m ((c : Thread nD τ).loc main_arg4)
abbrev a5 (c : Dev nD) : FVec Ideal S64x128 .f32 := m ((c : Thread nD τ).loc main_arg5)
abbrev a6 (c : Dev nD) : FVec Ideal S64 .f32 := m ((c : Thread nD τ).loc main_arg6)
abbrev a7 (c : Dev nD) : FVec Ideal S64x128 .f32 := m ((c : Thread nD τ).loc main_arg7)
abbrev a8 (c : Dev nD) : FVec Ideal S64 .f32 := m ((c : Thread nD τ).loc main_arg8)

/-- The second launch leaves the filtered image. -/
theorem filtered_image (c : Dev nD) (b : Fin 8) (l : Fin 32) (y x : Fin 256) :
    (W6 (F := Ideal) m ρ c (Proc.devRef .tc main_v47) : FVec Ideal S8x32x256x256 .bf16) (ix4 b l y x)
      = separated (a1 m c) (a2 m c) b l y x := by
  have eR : (V5 (F := Ideal) m ρ c main_v43 : FVec Ideal S256x512 .bf16) = W4 m ρ c (Proc.devRef .tc main_v43) :=
    W5_of m ρ c main_v43 (by decide +kernel)
  have eC : (V5 (F := Ideal) m ρ c main_v44 : FVec Ideal S512x256 .bf16) = W4 m ρ c (Proc.devRef .tc main_v44) :=
    W5_of m ρ c main_v44 (by decide +kernel)
  have eH : V5 (F := Ideal) m ρ c main_arg1 = a1 m c := W5_args m ρ c main_arg1 (by decide)
  have e : (W6 (F := Ideal) m ρ c (Proc.devRef .tc main_v47) : FVec Ideal S8x32x256x256 .bf16)
      = Fir.filtered (V5 m ρ c main_arg1) (V5 m ρ c main_v43) (V5 m ρ c main_v44) := (W6_arr m ρ c 3).trans (Fir.final (V5 m ρ) c)
  refine (congrFun e _).trans ?_
  show @Eq EReal _ _
  refine Finset.sum_congr rfl fun r _ => congrArg₂ (· * ·) ((congrFun eR _).trans (wide_matrix m ρ c y r)) ?_
  exact Finset.sum_congr rfl fun s _ => congrArg₂ (· * ·) (congrFun eH _) ((congrFun eC _).trans (tall_matrix m ρ c s x))

/-- The third launch finds the flattened first argument as the host left it. -/
theorem image_kept (c : Dev nD) : (V7 (F := Ideal) m ρ c main_v45 : FVec Ideal S8x64x65536 .f32) = W4 m ρ c (Proc.devRef .tc main_v45) :=
  (W7_of m ρ c main_v45 (by decide)).trans ((W6_of m ρ c main_v45 (by decide +kernel)).trans (W5_of m ρ c main_v45 (by decide +kernel)))

/-- It finds the channel sums that the first launch left. -/
theorem sums_kept (c : Dev nD) (b : Fin 8) (ch : Fin 64) :
    (V7 (F := Ideal) m ρ c main_v46_0 : FVec Ideal S8x64x1 .f32) (ix3 b ch 0) = sum1 (a0 m c) b ch := by
  have e : (V7 (F := Ideal) m ρ c main_v46_0 : FVec Ideal S8x64x1 .f32) = Stats.sums (V4 m ρ c main_v45) :=
    (W7_of m ρ c main_v46_0 (by decide)).trans ((W6_of m ρ c main_v46_0 (by decide +kernel)).trans
      ((W5_arr m ρ c 4).trans (Stats.final_sums (V4 m ρ) c)))
  refine (congrFun e _).trans ?_
  show @Eq EReal _ _
  exact Finset.sum_congr rfl fun k _ => flat_image m ρ c b ch k

/-- It finds the channel sums of squares that the first launch left. -/
theorem squares_kept (c : Dev nD) (b : Fin 8) (ch : Fin 64) :
    (V7 (F := Ideal) m ρ c main_v46_1 : FVec Ideal S8x64x1 .f32) (ix3 b ch 0) = sum2 (a0 m c) b ch := by
  have e : (V7 (F := Ideal) m ρ c main_v46_1 : FVec Ideal S8x64x1 .f32) = Stats.squares (V4 m ρ c main_v45) :=
    (W7_of m ρ c main_v46_1 (by decide)).trans ((W6_of m ρ c main_v46_1 (by decide +kernel)).trans
      ((W5_arr m ρ c 5).trans (Stats.final_squares (V4 m ρ) c)))
  refine (congrFun e _).trans ?_
  show @Eq EReal _ _
  exact Finset.sum_congr rfl fun k _ => congrArg₂ (· * ·) (flat_image m ρ c b ch k) (flat_image m ρ c b ch k)

/-- It finds the filtered image flattened. -/
theorem flat_filtered (c : Dev nD) (b : Fin 8) (l : Fin 32) (p : Fin 65536) :
    (V7 (F := Ideal) m ρ c main_v48 : FVec Ideal S8x32x65536 .bf16) (ix3 b l p) = separated (a1 m c) (a2 m c) b l (line p) (place p) := by
  refine Eq.trans ?_ (filtered_image m ρ c b l (line p) (place p))
  show StableHlo.after hostOps2 (W6 m ρ c) (Proc.devRef .tc main_v48) (ix3 b l p) = _
  generalize W6 (F := Ideal) m ρ c = V
  after_results
  pointwise

/-- It finds the weights and biases of the three layers. -/
theorem weights1 (c : Dev nD) (n : Fin 128) (l : Fin 32) : (V7 (F := Ideal) m ρ c main_v49 : FVec Ideal S128x32 .bf16) (ix2 n l) = a3 m c (ix2 n l) := by
  refine Eq.trans ?_ (congrFun (W6_args m ρ c main_arg3 (by decide)) (ix2 n l))
  show StableHlo.after hostOps2 (W6 m ρ c) (Proc.devRef .tc main_v49) (ix2 n l) = _
  generalize W6 (F := Ideal) m ρ c = V
  after_results
  pointwise
theorem weights2 (c : Dev nD) (k : Fin 64) (n : Fin 128) : (V7 (F := Ideal) m ρ c main_v50 : FVec Ideal S64x128 .bf16) (ix2 k n) = a5 m c (ix2 k n) := by
  refine Eq.trans ?_ (congrFun (W6_args m ρ c main_arg5 (by decide)) (ix2 k n))
  show StableHlo.after hostOps2 (W6 m ρ c) (Proc.devRef .tc main_v50) (ix2 k n) = _
  generalize W6 (F := Ideal) m ρ c = V
  after_results
  pointwise
theorem weights3 (c : Dev nD) (k : Fin 64) (n : Fin 128) : (V7 (F := Ideal) m ρ c main_v51 : FVec Ideal S64x128 .bf16) (ix2 k n) = a7 m c (ix2 k n) := by
  refine Eq.trans ?_ (congrFun (W6_args m ρ c main_arg7 (by decide)) (ix2 k n))
  show StableHlo.after hostOps2 (W6 m ρ c) (Proc.devRef .tc main_v51) (ix2 k n) = _
  generalize W6 (F := Ideal) m ρ c = V
  after_results
  pointwise
theorem bias1 (c : Dev nD) (n : Fin 128) : (V7 (F := Ideal) m ρ c main_v52 : FVec Ideal S128x1 .f32) (ix2 n 0) = a4 m c (ix1 n) := by
  refine Eq.trans ?_ (congrFun (W6_args m ρ c main_arg4 (by decide)) (ix1 n))
  show StableHlo.after hostOps2 (W6 m ρ c) (Proc.devRef .tc main_v52) (ix2 n 0) = _
  generalize W6 (F := Ideal) m ρ c = V
  after_results
  pointwise
theorem bias2 (c : Dev nD) (k : Fin 64) : (V7 (F := Ideal) m ρ c main_v53 : FVec Ideal S64x1 .f32) (ix2 k 0) = a6 m c (ix1 k) := by
  refine Eq.trans ?_ (congrFun (W6_args m ρ c main_arg6 (by decide)) (ix1 k))
  show StableHlo.after hostOps2 (W6 m ρ c) (Proc.devRef .tc main_v53) (ix2 k 0) = _
  generalize W6 (F := Ideal) m ρ c = V
  after_results
  pointwise
theorem bias3 (c : Dev nD) (k : Fin 64) : (V7 (F := Ideal) m ρ c main_v54 : FVec Ideal S64x1 .f32) (ix2 k 0) = a8 m c (ix1 k) := by
  refine Eq.trans ?_ (congrFun (W6_args m ρ c main_arg8 (by decide)) (ix1 k))
  show StableHlo.after hostOps2 (W6 m ρ c) (Proc.devRef .tc main_v54) (ix2 k 0) = _
  generalize W6 (F := Ideal) m ρ c = V
  after_results
  pointwise

/-- One entry of the flattened result. -/
theorem flat_result (c : Dev nD) (b : Fin 8) (ch : Fin 64) (p : Fin 65536) :
    (W8 (F := Ideal) m ρ c (Proc.devRef .tc main_v55) : FVec Ideal S8x64x65536 .f32) (ix3 b ch p)
      = modulate (a0 m c (ix4 b ch (line p) (place p))) (sum1 (a0 m c) b ch * Ideal.ofBits FTy.f32 0x37800000#32)
          (sum2 (a0 m c) b ch * Ideal.ofBits FTy.f32 0x37800000#32
            - (sum1 (a0 m c) b ch * Ideal.ofBits FTy.f32 0x37800000#32) * (sum1 (a0 m c) b ch * Ideal.ofBits FTy.f32 0x37800000#32))
          (mixed (fun k n => a5 m c (ix2 k n)) (fun k => a6 m c (ix1 k)) (hiddenUnit (fun n l => a3 m c (ix2 n l)) (fun n => a4 m c (ix1 n))
            (fun l => separated (a1 m c) (a2 m c) b l (line p) (place p))) ch)
          (mixed (fun k n => a7 m c (ix2 k n)) (fun k => a8 m c (ix1 k)) (hiddenUnit (fun n l => a3 m c (ix2 n l)) (fun n => a4 m c (ix1 n))
            (fun l => separated (a1 m c) (a2 m c) b l (line p) (place p))) ch) := by
  rw [show W8 (F := Ideal) m ρ c (Proc.devRef .tc main_v55) = _ from W8_arr m ρ c 10, Mod.final (V7 m ρ) c]
  have eX : (V7 (F := Ideal) m ρ c main_v45 : FVec Ideal S8x64x65536 .f32) (ix3 b ch p) = a0 m c (ix4 b ch (line p) (place p)) :=
    (congrFun (image_kept m ρ c) _).trans (flat_image m ρ c b ch p)
  have e1 := sums_kept m ρ c b ch
  have e2 := squares_kept m ρ c b ch
  have eH : (fun l => (V7 (F := Ideal) m ρ c main_v48 : FVec Ideal S8x32x65536 .bf16) (ix3 b l p)) = fun l => separated (a1 m c) (a2 m c) b l (line p) (place p) :=
    funext fun l => flat_filtered m ρ c b l p
  have ew1 : (fun n l => (V7 (F := Ideal) m ρ c main_v49 : FVec Ideal S128x32 .bf16) (ix2 n l)) = fun n l => a3 m c (ix2 n l) :=
    funext fun n => funext fun l => weights1 m ρ c n l
  have ew2 : (fun k n => (V7 (F := Ideal) m ρ c main_v50 : FVec Ideal S64x128 .bf16) (ix2 k n)) = fun k n => a5 m c (ix2 k n) :=
    funext fun k => funext fun n => weights2 m ρ c k n
  have ew3 : (fun k n => (V7 (F := Ideal) m ρ c main_v51 : FVec Ideal S64x128 .bf16) (ix2 k n)) = fun k n => a7 m c (ix2 k n) :=
    funext fun k => funext fun n => weights3 m ρ c k n
  have eb1 : (fun n => (V7 (F := Ideal) m ρ c main_v52 : FVec Ideal S128x1 .f32) (ix2 n 0)) = fun n => a4 m c (ix1 n) := funext fun n => bias1 m ρ c n
  have eb2 : (fun k => (V7 (F := Ideal) m ρ c main_v53 : FVec Ideal S64x1 .f32) (ix2 k 0)) = fun k => a6 m c (ix1 k) := funext fun k => bias2 m ρ c k
  have eb3 : (fun k => (V7 (F := Ideal) m ρ c main_v54 : FVec Ideal S64x1 .f32) (ix2 k 0)) = fun k => a8 m c (ix1 k) := funext fun k => bias3 m ρ c k
  rw [← eX, ← e1, ← e2, ← eH, ← ew1, ← ew2, ← ew3, ← eb1, ← eb2, ← eb3]
  rfl

/-- One entry of the result. -/
theorem result_at (c : Dev nD) (b : Fin 8) (ch : Fin 64) (y x : Fin 256) :
    (W9 (F := Ideal) m ρ c (Proc.devRef .tc main_v56) : FVec Ideal S8x64x256x256 .f32) (ix4 b ch y x)
      = modulate (a0 m c (ix4 b ch y x)) (sum1 (a0 m c) b ch * Ideal.ofBits FTy.f32 0x37800000#32)
          (sum2 (a0 m c) b ch * Ideal.ofBits FTy.f32 0x37800000#32
            - (sum1 (a0 m c) b ch * Ideal.ofBits FTy.f32 0x37800000#32) * (sum1 (a0 m c) b ch * Ideal.ofBits FTy.f32 0x37800000#32))
          (mixed (fun k n => a5 m c (ix2 k n)) (fun k => a6 m c (ix1 k)) (hiddenUnit (fun n l => a3 m c (ix2 n l)) (fun n => a4 m c (ix1 n))
            (fun l => separated (a1 m c) (a2 m c) b l y x)) ch)
          (mixed (fun k n => a7 m c (ix2 k n)) (fun k => a8 m c (ix1 k)) (hiddenUnit (fun n l => a3 m c (ix2 n l)) (fun n => a4 m c (ix1 n))
            (fun l => separated (a1 m c) (a2 m c) b l y x)) ch) := by
  have ey : line ⟨y.val * 256 + x.val, by have := y.isLt; have := x.isLt; omega⟩ = y := Fin.ext (by show (y.val * 256 + x.val) / 256 = y.val; have := x.isLt; omega)
  have ex : place ⟨y.val * 256 + x.val, by have := y.isLt; have := x.isLt; omega⟩ = x := Fin.ext (by show (y.val * 256 + x.val) % 256 = x.val; have := x.isLt; omega)
  have h := flat_result m ρ c b ch ⟨y.val * 256 + x.val, by have := y.isLt; have := x.isLt; omega⟩
  rw [ey, ex] at h
  refine Eq.trans ?_ h
  show StableHlo.after hostOps3 (W8 m ρ c) (Proc.devRef .tc main_v56) (ix4 b ch y x) = _
  generalize W8 (F := Ideal) m ρ c = V
  after_results
  pointwise

end Cert.KernelIdeal.Total

end
-- ==== Proof.RefConv.lean ====
/- The reference's filtered image, entry by entry: the twelve by twelve filter, reversed, over the padded label map at
   stride two. The reference gathers each window's rows and then its columns and contracts them with the filter. -/
module

public import proofs.«01_k».proof.Proof.Gen.ReferenceIdeal.Read
public import proofs.«01_k».proof.Proof.Formula
public import Idealize.ShloMosaic.Lib.Routing.OpsSet

@[expose] public section

set_option maxRecDepth 16384

noncomputable section

namespace Cert.ReferenceIdeal.Conv

open Idealize.ShloMosaic Cert.ReferenceIdeal Cert.ReferenceIdeal.Gen Cert.ReferenceIdeal.Read Cert.Formula

/-- The gather of rows reads, at output row `y` and tap `k`, the operand's row that the index array names there. -/
theorem gather_rows {α : Type} (X : S8x32x522x522.Idx → α) (idx : IVec S256x12x1 32) (b : Fin 8) (l : Fin 32) (y : Fin 256)
    (k : Fin 12) (x n : Fin 522) (h : (idx (ix3 y k 0)).toInt.toNat = n.val) :
    Host.gather gather_S8x32x522x522_S256x12x1_S8x32x256x12x522_014_2_n_n_2_2_8321522 X idx (ix5 b l y k x) = X (ix4 b l n x) := by
  have hs : (gather_S8x32x522x522_S256x12x1_S8x32x256x12x522_014_2_n_n_2_2_8321522).siIdx (ix5 b l y k x) ⟨0, by decide⟩ = ix3 y k 0 := by
    funext c
    fin_cases c <;> rfl
  unfold Host.gather
  refine congrArg X (funext fun a => Fin.ext ?_)
  match a with
  | ⟨0, _⟩ => exact Nat.zero_add _
  | ⟨1, _⟩ => exact Nat.zero_add _
  | ⟨2, _⟩ =>
    refine Eq.trans (show _ = min (idx ((gather_S8x32x522x522_S256x12x1_S8x32x256x12x522_014_2_n_n_2_2_8321522).siIdx
      (ix5 b l y k x) ⟨0, by decide⟩)).toInt.toNat 521 from rfl) ?_
    rw [hs, h]
    show _ = n.val
    omega
  | ⟨3, _⟩ => exact Nat.zero_add _

/-- The gather of columns reads, at output column `x` and tap `m`, the operand's column that the index array names there. -/
theorem gather_columns {α : Type} (X : S8x32x256x12x522.Idx → α) (idx : IVec S256x12x1 32) (b : Fin 8) (l : Fin 32) (y : Fin 256)
    (k : Fin 12) (x : Fin 256) (m : Fin 12) (n : Fin 522) (h : (idx (ix3 x m 0)).toInt.toNat = n.val) :
    Host.gather gather_S8x32x256x12x522_S256x12x1_S8x32x256x12x256x12_0123_4_n_n_4_2_832256121 X idx (ix6 b l y k x m)
      = X (ix5 b l y k n) := by
  have hs : (gather_S8x32x256x12x522_S256x12x1_S8x32x256x12x256x12_0123_4_n_n_4_2_832256121).siIdx (ix6 b l y k x m) ⟨0, by decide⟩ = ix3 x m 0 := by
    funext c
    fin_cases c <;> rfl
  unfold Host.gather
  refine congrArg X (funext fun a => Fin.ext ?_)
  match a with
  | ⟨0, _⟩ => exact Nat.zero_add _
  | ⟨1, _⟩ => exact Nat.zero_add _
  | ⟨2, _⟩ => exact Nat.zero_add _
  | ⟨3, _⟩ => exact Nat.zero_add _
  | ⟨4, _⟩ =>
    refine Eq.trans (show _ = min (idx ((gather_S8x32x256x12x522_S256x12x1_S8x32x256x12x256x12_0123_4_n_n_4_2_832256121).siIdx
      (ix6 b l y k x m) ⟨0, by decide⟩)).toInt.toNat 521 from rfl) ?_
    rw [hs, h]
    show _ = n.val
    omega

/-- The word of a window's position, read as a number. -/
theorem position (p : Fin 256) (k : Fin 12) :
    (IntOp.addi (IntOp.muli (2#32) (BitVec.ofNat 32 p.val)) (BitVec.ofNat 32 k.val)).toInt.toNat = 2 * p.val + k.val := by
  have e : IntOp.addi (IntOp.muli (2#32) (BitVec.ofNat 32 p.val)) (BitVec.ofNat 32 k.val) = BitVec.ofNat 32 (2 * p.val + k.val) := by
    show 2#32 * BitVec.ofNat 32 p.val + BitVec.ofNat 32 k.val = _
    rw [BitVec.ofNat_add, BitVec.ofNat_mul]
  have hp := p.isLt
  have hk := k.isLt
  rw [e, StableHlo.Predicate.toInt_ofNat_small _ (by omega)]
  omega

/-- The index array of the rows: twice the output row plus the tap. -/
theorem rows_index (p : Fin 256) (k : Fin 12) : ((val_main_call2_v0 (F := Ideal)) (ix3 p k 0)).toInt.toNat = 2 * p.val + k.val := by
  pointwise [val_main_call2_v0, val_main_v10, val_main_v9, val_main_v8, val_main_v7, val_main_v6, val_main_v5, val_main_v4, val_main_v3, val_main_v2, val_main_c_0]
  exact position p k

/-- The index array of the columns: the same. -/
theorem columns_index (p : Fin 256) (k : Fin 12) : ((val_main_call3_v0 (F := Ideal)) (ix3 p k 0)).toInt.toNat = 2 * p.val + k.val := by
  pointwise [val_main_call3_v0, val_main_v10, val_main_v9, val_main_v8, val_main_v7, val_main_v6, val_main_v5, val_main_v4, val_main_v3, val_main_v2, val_main_c_0]
  exact position p k

/-- The padded label map. -/
theorem padded (x1 : FVec Ideal S8x32x512x512 .f32) (b : Fin 8) (l : Fin 32) (y x : Fin 522) :
    val_main_v1 (F := Ideal) x1 (ix4 b l y x) = paddedAt (fun r s => x1 (ix4 b l r s)) y.val x.val := by
  have hz : (FloatOps.sitofp .f32 (0#32) : Ideal .f32) = (0 : EReal) := by
    show (((0#32).toInt : ℝ) : EReal) = 0
    simp
  pointwise [val_main_v1, val_main_call1_v0, val_main_c]
  rw [hz]
  rfl

/-- A window's entry: the padded map at twice the output position plus the tap. -/
theorem window (x1 : FVec Ideal S8x32x512x512 .f32) (b : Fin 8) (l : Fin 32) (y : Fin 256) (k : Fin 12) (x : Fin 256) (m : Fin 12) :
    val_main_v12 (F := Ideal) x1 (ix6 b l y k x m)
      = paddedAt (fun r s => x1 (ix4 b l r s)) (2 * y.val + k.val) (2 * x.val + m.val) := by
  unfold val_main_v12
  rw [gather_columns _ _ b l y k x m ⟨2 * x.val + m.val, by omega⟩ (columns_index x m)]
  unfold val_main_v11
  rw [gather_rows _ _ b l y k _ ⟨2 * y.val + k.val, by omega⟩ (rows_index y k), padded]

/-- The reference's filtered image. -/
theorem filtered (x1 : FVec Ideal S8x32x512x512 .f32) (x2 : FVec Ideal S12x12 .f32) (b : Fin 8) (l : Fin 32) (y x : Fin 256) :
    val_main_v13 (F := Ideal) x1 x2 (ix4 b l y x)
      = downsampled (fun r s => x1 (ix4 b l r s)) (fun i j => x2 (ix2 i j)) y x := by
  pointwise [val_main_v13, val_main_v0]
  refine Finset.sum_congr rfl fun k _ => Finset.sum_congr rfl fun m _ => ?_
  rw [window]
  rfl

end Cert.ReferenceIdeal.Conv

end
-- ==== Proof.RefTail.lean ====
/- The reference after its filtered image, entry by entry. -/
module

public import proofs.«01_k».proof.Proof.Gen.ReferenceIdeal.Read
public import proofs.«01_k».proof.Proof.Formula

@[expose] public section

set_option maxRecDepth 16384

noncomputable section

namespace Cert.ReferenceIdeal.Tail

open Idealize.ShloMosaic Cert.ReferenceIdeal Cert.ReferenceIdeal.Gen Cert.ReferenceIdeal.Read Cert.Formula

/-- One hidden unit at one position: the leaky activation of a weighted sum of the filtered image's channels plus a bias. -/
theorem hidden_at (x1 : FVec Ideal S8x32x512x512 .f32) (x2 : FVec Ideal S12x12 .f32) (x3 : FVec Ideal S128x32 .f32)
    (x4 : FVec Ideal S128 .f32) (b : Fin 8) (n : Fin 128) (y x : Fin 256) :
    val_main_v25 (F := Ideal) x1 x2 x3 x4 (ix4 b n y x)
      = hiddenUnit (fun n l => x3 (ix2 n l)) (fun n => x4 (ix1 n)) (fun l => val_main_v13 (F := Ideal) x1 x2 (ix4 b l y x)) n := by
  pointwise [val_main_v25, val_main_v24, val_main_cst_2, val_main_v23, val_main_v22, val_main_v21, val_main_cst_1, val_main_v20,
    val_main_v19, val_main_cst, val_main_v18, val_main_v17, val_main_v16, val_main_v15, val_main_v14, hiddenUnit, activation]

/-- One channel's scale at one position: a weighted sum of the hidden units plus a bias. -/
theorem gamma_at (x1 : FVec Ideal S8x32x512x512 .f32) (x2 : FVec Ideal S12x12 .f32) (x3 : FVec Ideal S128x32 .f32)
    (x4 : FVec Ideal S128 .f32) (x5 : FVec Ideal S64x128 .f32) (x6 : FVec Ideal S64 .f32) (b : Fin 8) (c : Fin 64) (y x : Fin 256) :
    val_main_v30 (F := Ideal) x1 x2 x3 x4 x5 x6 (ix4 b c y x)
      = mixed (fun c n => x5 (ix2 c n)) (fun c => x6 (ix1 c)) (fun n => val_main_v25 (F := Ideal) x1 x2 x3 x4 (ix4 b n y x)) c := by
  pointwise [val_main_v30, val_main_v29, val_main_v28, val_main_v27, val_main_v26, mixed]

/-- One channel's shift at one position: a weighted sum of the hidden units plus a bias. -/
theorem beta_at (x1 : FVec Ideal S8x32x512x512 .f32) (x2 : FVec Ideal S12x12 .f32) (x3 : FVec Ideal S128x32 .f32)
    (x4 : FVec Ideal S128 .f32) (x7 : FVec Ideal S64x128 .f32) (x8 : FVec Ideal S64 .f32) (b : Fin 8) (c : Fin 64) (y x : Fin 256) :
    val_main_v35 (F := Ideal) x1 x2 x3 x4 x7 x8 (ix4 b c y x)
      = mixed (fun c n => x7 (ix2 c n)) (fun c => x8 (ix1 c)) (fun n => val_main_v25 (F := Ideal) x1 x2 x3 x4 (ix4 b n y x)) c := by
  pointwise [val_main_v35, val_main_v34, val_main_v33, val_main_v32, val_main_v31, mixed]

/-- One channel's mean: the sum of the plane's entries over the number of entries. -/
theorem mean_at (x0 : FVec Ideal S8x64x256x256 .f32) (b : Fin 8) (c : Fin 64) :
    val_main_v39 (F := Ideal) x0 (ix4 b c 0 0)
      = Ideal.div (∑ y : Fin 256, ∑ x : Fin 256, x0 (ix4 b c y x)) (Ideal.ofBits FTy.f32 0x47800000#32) := by
  pointwise [val_main_v39, val_main_v38, val_main_cst_4, val_main_v37, val_main_v36, val_main_cst_3]

/-- One channel's variance: the sum of the squared distances to the mean over the number of entries. -/
theorem var_at (x0 : FVec Ideal S8x64x256x256 .f32) (b : Fin 8) (c : Fin 64) :
    val_main_v46 (F := Ideal) x0 (ix4 b c 0 0)
      = Ideal.div (∑ y : Fin 256, ∑ x : Fin 256,
          (x0 (ix4 b c y x) - val_main_v39 (F := Ideal) x0 (ix4 b c 0 0)) * (x0 (ix4 b c y x) - val_main_v39 (F := Ideal) x0 (ix4 b c 0 0)))
          (Ideal.ofBits FTy.f32 0x47800000#32) := by
  pointwise [val_main_v46, val_main_v45, val_main_cst_6, val_main_v44, val_main_v43, val_main_cst_5, val_main_v42, val_main_v41, val_main_v40]

/-- One entry of the result: the entry of the first argument normalised, scaled, shifted, with a tenth of itself added. -/
theorem result_at (x0 : FVec Ideal S8x64x256x256 .f32) (x1 : FVec Ideal S8x32x512x512 .f32) (x2 : FVec Ideal S12x12 .f32) (x3 : FVec Ideal S128x32 .f32)
    (x4 : FVec Ideal S128 .f32) (x5 : FVec Ideal S64x128 .f32) (x6 : FVec Ideal S64 .f32) (x7 : FVec Ideal S64x128 .f32) (x8 : FVec Ideal S64 .f32)
    (b : Fin 8) (c : Fin 64) (y x : Fin 256) :
    val_main_v60 (F := Ideal) x0 x1 x2 x3 x4 x5 x6 x7 x8 (ix4 b c y x)
      = modulate (x0 (ix4 b c y x)) (val_main_v39 (F := Ideal) x0 (ix4 b c 0 0)) (val_main_v46 (F := Ideal) x0 (ix4 b c 0 0))
         (val_main_v30 (F := Ideal) x1 x2 x3 x4 x5 x6 (ix4 b c y x)) (val_main_v35 (F := Ideal) x1 x2 x3 x4 x7 x8 (ix4 b c y x)) := by
  pointwise [val_main_v60, val_main_v59, val_main_v58, val_main_v57, val_main_v56, val_main_v55, val_main_v54, val_main_v53, val_main_v52,
    val_main_v51, val_main_v50, val_main_v49, val_main_v48, val_main_v47, val_main_cst_7, val_main_cst_8, val_main_cst_9, modulate]

end Cert.ReferenceIdeal.Tail

end
-- ==== Proof.Precondition.lean ====
/- What the precondition says, entry by entry: the first two arguments and the filter are real numbers, the filter's sum
   is positive, and the filter times its sum is the product of its row sums and its column sums. -/
module

public import Idealize.ShloMosaic.Lib.Pointwise
public import proofs.«01_k».proof.Proof.Gen.Pre_real_and_separable

@[expose] public section

set_option maxRecDepth 16384

noncomputable section

namespace Cert.Pre_real_and_separable.Read

open Idealize.ShloMosaic Cert.Pre_real_and_separable

/-- A number whose distance from zero is below infinity is real. -/
theorem real_of_lt {z : EReal} (h : Ideal.cmp .olt (max z (-z)) (Ideal.ofBits .f32 0x7F800000#32) = 1#1) : ∃ r : ℝ, z = r := by
  have htop : Ideal.ofBits .f32 0x7F800000#32 = ⊤ := by simp [Ideal.ofBits, Ideal.ieee]
  rw [htop] at h
  induction z with
  | bot => simp [Ideal.cmp] at h
  | coe r => exact ⟨r, rfl⟩
  | top => simp [Ideal.cmp] at h

/-- A comparison's word that is one says the comparison holds. -/
theorem of_bit {p : Prop} [Decidable p] (h : BitVec.ofBool (decide p) = 1#1) : p := by
  by_contra hp
  simp [hp] at h

variable (x0 : FVec Ideal S8x64x256x256 .f32) (x1 : FVec Ideal S8x32x512x512 .f32) (x2 : FVec Ideal S12x12 .f32) (x3 : FVec Ideal S128x32 .f32)
  (x4 : FVec Ideal S128 .f32) (x5 : FVec Ideal S64x128 .f32) (x6 : FVec Ideal S64 .f32) (x7 : FVec Ideal S64x128 .f32) (x8 : FVec Ideal S64 .f32)
variable [Facts]

/-- The first argument's entries are real. -/
theorem image_real (h : (fn (F := Ideal) x0 x1 x2 x3 x4 x5 x6 x7 x8).1 = fun _ => 1#1) (i : S8x64x256x256.Idx) : ∃ r : ℝ, x0 i = r :=
  real_of_lt (congrFun h i)

/-- The second argument's entries are real. -/
theorem map_real (h : (fn (F := Ideal) x0 x1 x2 x3 x4 x5 x6 x7 x8).2.1 = fun _ => 1#1) (i : S8x32x512x512.Idx) : ∃ r : ℝ, x1 i = r :=
  real_of_lt (congrFun h i)

/-- The filter's entries are real. -/
theorem filter_real (h : (fn (F := Ideal) x0 x1 x2 x3 x4 x5 x6 x7 x8).2.2.1 = fun _ => 1#1) (i : S12x12.Idx) : ∃ r : ℝ, x2 i = r :=
  real_of_lt (congrFun h i)

/-- The filter's sum is positive. -/
theorem total_positive (h : (fn (F := Ideal) x0 x1 x2 x3 x4 x5 x6 x7 x8).2.2.2.1 = fun _ => 1#1) :
    0 < ∑ i : Fin 12, ∑ j : Fin 12, (x2 (ix2 i j) : EReal) := by
  have h' := congrFun h ix0
  unfold fn fn_part1 at h'
  pointwise at h'
  exact of_bit h'

/-- An entry times the filter's sum is the sum of the entry's row times the sum of its column. -/
theorem separable (h : (fn (F := Ideal) x0 x1 x2 x3 x4 x5 x6 x7 x8).2.2.2.2 = fun _ => 1#1) (i j : Fin 12) :
    (x2 (ix2 i j) : EReal) * (∑ i : Fin 12, ∑ j : Fin 12, (x2 (ix2 i j) : EReal)) = (∑ j' : Fin 12, (x2 (ix2 i j') : EReal)) * ∑ i' : Fin 12, (x2 (ix2 i' j) : EReal) := by
  have h' := congrFun h (ix2 i j)
  unfold fn fn_part1 at h'
  pointwise at h'
  exact of_bit h'

end Cert.Pre_real_and_separable.Read

end
-- ==== Proof.Sums.lean ====
/- Two facts about finite sums of reals: a filter that is a product of its row and column factors may be applied one
   axis at a time, and the mean of squared distances to the mean is the mean of squares less the squared mean. -/
module

public import Idealize.ShloMosaic.Lib.Pointwise
public import Mathlib.Tactic.FieldSimp
public import Mathlib.Tactic.Ring

@[expose] public section

noncomputable section

namespace Cert.Sums

/-- The weight a filter of twelve taps, stepping by two over an image padded by five, gives input position `i` in output position `o`. -/
def band (v : Fin 12 → ℝ) (i o : ℕ) : ℝ :=
  if h : 2 * o ≤ i + 5 ∧ i + 5 - 2 * o < 12 then v ⟨i + 5 - 2 * o, h.2⟩ else 0

/-- A row padded by five on either side with zeros, read at `i`. -/
def padded (g : Fin 512 → ℝ) (i : ℕ) : ℝ := if h : 5 ≤ i ∧ i - 5 < 512 then g ⟨i - 5, h.2⟩ else 0

theorem pick_tap (g : ℝ) (v : Fin 12 → ℝ) (s o : ℕ) : ∑ k : Fin 12, (if s + 5 = 2 * o + k.val then g * v k else 0) = g * band v s o := by
  unfold band
  split
  · rename_i h
    rw [Finset.sum_eq_single ⟨s + 5 - 2 * o, h.2⟩]
    · rw [if_pos (by show s + 5 = 2 * o + (s + 5 - 2 * o); omega)]
    · intro k _ hk
      exact if_neg fun e => hk (Fin.ext (by show k.val = s + 5 - 2 * o; omega))
    · exact fun hh => absurd (Finset.mem_univ _) hh
  · rename_i h
    rw [mul_zero]
    exact Finset.sum_eq_zero fun k _ => if_neg fun e => h (by have := k.isLt; omega)

theorem pick_entry (g : Fin 512 → ℝ) (v : ℝ) (k o : ℕ) : ∑ s : Fin 512, (if s.val + 5 = 2 * o + k then g s * v else 0) = padded g (2 * o + k) * v := by
  unfold padded
  split
  · rename_i h
    rw [Finset.sum_eq_single ⟨2 * o + k - 5, h.2⟩]
    · rw [if_pos (by show 2 * o + k - 5 + 5 = 2 * o + k; omega)]
    · intro s _ hs
      exact if_neg fun e => hs (Fin.ext (by show s.val = 2 * o + k - 5; omega))
    · exact fun hh => absurd (Finset.mem_univ _) hh
  · rename_i h
    rw [zero_mul]
    exact Finset.sum_eq_zero fun s _ => if_neg fun e => h (by have := s.isLt; omega)

/-- A row times a banded matrix is the filter stepping over the padded row. -/
theorem sum_band (g : Fin 512 → ℝ) (v : Fin 12 → ℝ) (o : ℕ) :
    ∑ s : Fin 512, g s * band v s o = ∑ k : Fin 12, padded g (2 * o + k.val) * v k := by
  rw [Finset.sum_congr rfl fun s _ => (pick_tap (g s) v s.val o).symm, Finset.sum_comm]
  exact Finset.sum_congr rfl fun k _ => pick_entry g (v k) k.val o

/-- Filtering columns then rows with two factors is filtering with their product. -/
theorem separate (H : Fin 512 → Fin 512 → ℝ) (r c : Fin 12 → ℝ) (f : Fin 12 → Fin 12 → ℝ) (hf : ∀ k l, r k * c l = f k l) (y x : ℕ) :
    ∑ i : Fin 512, band r i y * ∑ s : Fin 512, H i s * band c s x
      = ∑ k : Fin 12, ∑ l : Fin 12, padded (fun i => padded (H i) (2 * x + l.val)) (2 * y + k.val) * f k l := by
  rw [Finset.sum_congr rfl fun i _ => mul_comm (band r i.val y) _, sum_band (fun i => ∑ s : Fin 512, H i s * band c s x) r y]
  refine Finset.sum_congr rfl fun k _ => ?_
  unfold padded
  by_cases h : 5 ≤ 2 * y + k.val ∧ 2 * y + k.val - 5 < 512
  · rw [dif_pos h]
    show (∑ s : Fin 512, H ⟨2 * y + k.val - 5, h.2⟩ s * band c s x) * r k = _
    rw [sum_band, Finset.sum_mul]
    refine Finset.sum_congr rfl fun l _ => ?_
    rw [dif_pos h, ← hf k l]
    unfold padded
    ring
  · rw [dif_neg h, zero_mul]
    refine (Finset.sum_eq_zero fun l _ => ?_).symm
    rw [dif_neg h, zero_mul]

/-- The factors of a filter that is the product of its row and column sums over its total. -/
theorem factors (f : Fin 12 → Fin 12 → ℝ) (hS : 0 < ∑ i, ∑ j, f i j) (hf : ∀ i j, f i j * (∑ i, ∑ j, f i j) = (∑ j', f i j') * ∑ i', f i' j) (i j : Fin 12) :
    (∑ j', f i j') / Real.sqrt (∑ i, ∑ j, f i j) * ((∑ i', f i' j) / Real.sqrt (∑ i, ∑ j, f i j)) = f i j := by
  rw [div_mul_div_comm, ← hf i j, Real.mul_self_sqrt hS.le]
  exact mul_div_cancel_right₀ _ hS.ne'

/-- The mean of squared distances to the mean is the mean of squares less the square of the mean. -/
theorem variance {ι : Type} [Fintype ι] (x : ι → ℝ) (n : ℝ) (hn : n ≠ 0) (hc : (Fintype.card ι : ℝ) = n) :
    (∑ i, (x i - (∑ i, x i) / n) * (x i - (∑ i, x i) / n)) / n = (∑ i, x i * x i) / n - (∑ i, x i) / n * ((∑ i, x i) / n) := by
  have h : ∀ μ : ℝ, ∑ i, (x i - μ) * (x i - μ) = ∑ i, x i * x i - 2 * μ * ∑ i, x i + n * (μ * μ) := fun μ => by
    rw [Finset.sum_congr rfl fun i _ => show (x i - μ) * (x i - μ) = x i * x i - 2 * μ * x i + μ * μ by ring, Finset.sum_add_distrib, Finset.sum_sub_distrib,
      ← Finset.mul_sum, Finset.sum_const, Finset.card_univ, nsmul_eq_mul, hc]
  rw [h]
  field_simp
  ring

/-- A sum over a flattened square is the sum over its lines of the sums over their places. -/
theorem flatten {M : Type} [AddCommMonoid M] (g : Fin 256 → Fin 256 → M) :
    ∑ p : Fin 65536, g ⟨p.val / 256, by have := p.isLt; omega⟩ ⟨p.val % 256, Nat.mod_lt _ (by norm_num)⟩ = ∑ y, ∑ x, g y x := by
  rw [← Fintype.sum_prod_type' g]
  exact Fintype.sum_equiv (finProdFinEquiv (m := 256) (n := 256)).symm _ _ fun p => rfl

end Cert.Sums

end
-- ==== Proof.Equation.lean ====
/- Where the precondition holds, the kernel's one-axis-at-a-time filtering is the reference's filtering, and the
   kernel's mean and variance are the reference's. -/
module

public import Idealize.ShloMosaic.Lib.Pointwise
public import proofs.«01_k».proof.Proof.Weights
public import proofs.«01_k».proof.Proof.Formula
public import proofs.«01_k».proof.Proof.Sums

@[expose] public section

set_option maxRecDepth 16384

noncomputable section

namespace Cert.Equation

open Idealize.ShloMosaic Cert.Formula
open Cert.KernelIdeal.Bands (band)
open Cert.KernelIdeal.Weights (total rowTaps columnTaps)

/-- A finite sum of reals read as extended reals. -/
theorem coe_sum {ι : Type} (s : Finset ι) (g : ι → ℝ) : ((∑ i ∈ s, g i : ℝ) : EReal) = ∑ i ∈ s, ((g i : ℝ) : EReal) := by
  classical
  induction s using Finset.induction_on with
  | empty => simp
  | insert a s ha ih => rw [Finset.sum_insert ha, Finset.sum_insert ha, EReal.coe_add, ih]

/-- The two constants. -/
theorem count : Ideal.ofBits .f32 0x47800000#32 = ((65536 : ℝ) : EReal) := by
  simp [Ideal.ofBits, Ideal.ieee, -EReal.coe_mul]; norm_num
theorem share : Ideal.ofBits .f32 0x37800000#32 = ((1 / 65536 : ℝ) : EReal) := by
  simp [Ideal.ofBits, Ideal.ieee, -EReal.coe_mul]; norm_num

/-- A banded matrix of real taps is real. -/
theorem band_real (v : Fin 12 → ℝ) (w : Fin 12 → EReal) (h : ∀ k, w k = ((v k : ℝ) : EReal)) (i o : ℕ) : band w i o = ((Sums.band v i o : ℝ) : EReal) := by
  unfold band Sums.band
  split
  · exact h _
  · rfl

/-- A padded real map is real. -/
theorem padded_real (H : Fin 512 → Fin 512 → EReal) (G : Fin 512 → Fin 512 → ℝ) (h : ∀ r s, H r s = ((G r s : ℝ) : EReal)) (i j : ℕ) :
    paddedAt H i j = ((Sums.padded (fun r => Sums.padded (G r) j) i : ℝ) : EReal) := by
  unfold paddedAt Sums.padded
  by_cases hi : 5 ≤ i ∧ i - 5 < 512
  · by_cases hj : 5 ≤ j ∧ j - 5 < 512
    · rw [dif_pos ⟨hi, hj⟩, dif_pos hi]
      dsimp only
      rw [dif_pos hj]
      exact h _ _
    · rw [dif_neg fun e => hj e.2, dif_pos hi]
      dsimp only
      rw [dif_neg hj]
      rfl
  · rw [dif_neg fun e => hi e.1, dif_neg hi]
    rfl

/-- A real over the root of a positive real. -/
theorem over_root (a S : ℝ) (hS : 0 < S) : Ideal.div ((a : ℝ) : EReal) (Ideal.sqrt ((S : ℝ) : EReal)) = ((a / Real.sqrt S : ℝ) : EReal) := by
  rw [Ideal.sqrt_coe, if_neg (not_lt.2 hS.le), Ideal.div_coe (Real.sqrt_pos.2 hS).ne', ← EReal.coe_mul]
  congr 1
  ring

/-- Filtering the columns and then the rows with the filter's two factors is filtering with the filter. -/
theorem filtered (H : Fin 512 → Fin 512 → EReal) (f : FVec Ideal Cert.KernelIdeal.S12x12 .f32)
    (hH : ∀ r s, ∃ a : ℝ, H r s = a) (hf : ∀ i j : Fin 12, ∃ a : ℝ, f (ix2 i j) = a)
    (hS : 0 < ∑ i : Fin 12, ∑ j : Fin 12, (f (ix2 i j) : EReal))
    (hsep : ∀ i j : Fin 12, (f (ix2 i j) : EReal) * (∑ i : Fin 12, ∑ j : Fin 12, (f (ix2 i j) : EReal))
      = (∑ j' : Fin 12, (f (ix2 i j') : EReal)) * ∑ i' : Fin 12, (f (ix2 i' j) : EReal)) (y x : Fin 256) :
    ∑ r : Fin 512, band (rowTaps f) r y * ∑ s : Fin 512, H r s * band (columnTaps f) s x = downsampled H (fun i j => f (ix2 i j)) y x := by
  choose G hG using hH
  choose φ hφ using hf
  have hφ' : ∀ i j : Fin 12, (f (ix2 i j) : EReal) = ((φ i j : ℝ) : EReal) := hφ
  have eS : ∑ i : Fin 12, ∑ j : Fin 12, (f (ix2 i j) : EReal) = ((∑ i, ∑ j, φ i j : ℝ) : EReal) := by
    rw [coe_sum]
    exact Finset.sum_congr rfl fun i _ => (Finset.sum_congr rfl fun j _ => hφ' i j).trans (coe_sum _ _).symm
  have eR : ∀ i : Fin 12, ∑ j : Fin 12, (f (ix2 i j) : EReal) = ((∑ j, φ i j : ℝ) : EReal) := fun i =>
    (Finset.sum_congr rfl fun j _ => hφ' i j).trans (coe_sum _ _).symm
  have eC : ∀ j : Fin 12, ∑ i : Fin 12, (f (ix2 i j) : EReal) = ((∑ i, φ i j : ℝ) : EReal) := fun j =>
    (Finset.sum_congr rfl fun i _ => hφ' i j).trans (coe_sum _ _).symm
  have hS' : 0 < ∑ i, ∑ j, φ i j := by
    rw [eS] at hS
    exact_mod_cast hS
  have hsep' : ∀ i j, φ i j * (∑ i, ∑ j, φ i j) = (∑ j', φ i j') * ∑ i', φ i' j := fun i j => by
    have h := hsep i j
    rw [eS, eR, eC, hφ' i j, ← EReal.coe_mul, ← EReal.coe_mul] at h
    exact_mod_cast h
  have hr : ∀ k, rowTaps f k = (((∑ j, φ k.rev j) / Real.sqrt (∑ i, ∑ j, φ i j) : ℝ) : EReal) := fun k => by
    unfold rowTaps total
    rw [eS, eR]
    exact over_root _ _ hS'
  have hc : ∀ k, columnTaps f k = (((∑ i, φ i k.rev) / Real.sqrt (∑ i, ∑ j, φ i j) : ℝ) : EReal) := fun k => by
    unfold columnTaps total
    rw [eS, eC]
    exact over_root _ _ hS'
  have hcol : ∀ r : Fin 512, ∑ s : Fin 512, H r s * band (columnTaps f) s x
      = ((∑ s : Fin 512, G r s * Sums.band (fun k => (∑ i, φ i k.rev) / Real.sqrt (∑ i, ∑ j, φ i j)) s x : ℝ) : EReal) := fun r => by
    rw [coe_sum]
    refine Finset.sum_congr rfl fun s _ => ?_
    rw [hG r s, band_real _ _ hc, EReal.coe_mul]
  have hlhs : ∑ r : Fin 512, band (rowTaps f) r y * ∑ s : Fin 512, H r s * band (columnTaps f) s x
      = ((∑ r : Fin 512, Sums.band (fun k => (∑ j, φ k.rev j) / Real.sqrt (∑ i, ∑ j, φ i j)) r y
          * ∑ s : Fin 512, G r s * Sums.band (fun k => (∑ i, φ i k.rev) / Real.sqrt (∑ i, ∑ j, φ i j)) s x : ℝ) : EReal) := by
    rw [coe_sum]
    refine Finset.sum_congr rfl fun r _ => ?_
    rw [hcol r, band_real _ _ hr, EReal.coe_mul]
  rw [hlhs, Sums.separate G _ _ (fun k l => φ k.rev l.rev) (fun k l => Sums.factors φ hS' hsep' k.rev l.rev) y x, coe_sum]
  unfold downsampled
  refine Finset.sum_congr rfl fun k _ => ?_
  rw [coe_sum]
  refine Finset.sum_congr rfl fun l _ => ?_
  refine (EReal.coe_mul _ _).trans (congrArg₂ (· * ·) (padded_real H G hG _ _).symm (hφ' k.rev l.rev).symm)

/-- Where entry `p` of a flattened image lies in the image. -/
abbrev line (p : Fin 65536) : Fin 256 := ⟨p.val / 256, by have := p.isLt; omega⟩
abbrev place (p : Fin 65536) : Fin 256 := ⟨p.val % 256, Nat.mod_lt _ (by norm_num)⟩

/-- The kernel's mean is the reference's. -/
theorem mean (X : Fin 256 → Fin 256 → EReal) :
    (∑ p : Fin 65536, X (line p) (place p)) * Ideal.ofBits .f32 0x37800000#32
      = Ideal.div (∑ y : Fin 256, ∑ x : Fin 256, X y x) (Ideal.ofBits .f32 0x47800000#32) := by
  rw [count, share, Ideal.div_coe (by norm_num), Sums.flatten X]

/-- The kernel's variance is the reference's. -/
theorem variance (X : Fin 256 → Fin 256 → EReal) (hX : ∀ y x, ∃ a : ℝ, X y x = a) (μ : EReal)
    (hμ : μ = Ideal.div (∑ y : Fin 256, ∑ x : Fin 256, X y x) (Ideal.ofBits .f32 0x47800000#32)) :
    (∑ p : Fin 65536, X (line p) (place p) * X (line p) (place p)) * Ideal.ofBits .f32 0x37800000#32 - μ * μ
      = Ideal.div (∑ y : Fin 256, ∑ x : Fin 256, (X y x - μ) * (X y x - μ)) (Ideal.ofBits .f32 0x47800000#32) := by
  choose G hG using hX
  have e : ∀ g : Fin 256 → Fin 256 → ℝ, ∑ y : Fin 256, ∑ x : Fin 256, ((g y x : ℝ) : EReal) = ((∑ p : Fin 256 × Fin 256, g p.1 p.2 : ℝ) : EReal) := fun g => by
    rw [Fintype.sum_prod_type, coe_sum]
    exact Finset.sum_congr rfl fun y _ => (coe_sum _ _).symm
  have hμ' : μ = (((∑ p : Fin 256 × Fin 256, G p.1 p.2) / 65536 : ℝ) : EReal) := by
    rw [hμ, count, Ideal.div_coe (by norm_num), Finset.sum_congr rfl fun y _ => Finset.sum_congr rfl fun x _ => hG y x, e, ← EReal.coe_mul]
    congr 1
    ring
  rw [count, share, Ideal.div_coe (by norm_num), Sums.flatten (fun y x => X y x * X y x)]
  rw [Finset.sum_congr rfl fun y _ => Finset.sum_congr rfl fun x _ => show X y x * X y x = ((G y x * G y x : ℝ) : EReal) by rw [hG y x, EReal.coe_mul],
    Finset.sum_congr rfl fun y _ => Finset.sum_congr rfl fun x _ =>
      show (X y x - μ) * (X y x - μ) = (((G y x - (∑ p : Fin 256 × Fin 256, G p.1 p.2) / 65536) * (G y x - (∑ p : Fin 256 × Fin 256, G p.1 p.2) / 65536) : ℝ) : EReal) by
        rw [hG y x, hμ', ← EReal.coe_sub, EReal.coe_mul], e, e, hμ', ← EReal.coe_mul, ← EReal.coe_mul, ← EReal.coe_mul, ← EReal.coe_sub]
  have h := Sums.variance (fun p : Fin 256 × Fin 256 => G p.1 p.2) 65536 (by norm_num) (by simp [Fintype.card_prod])
  congr 1
  linarith [h]

end Cert.Equation

end
-- ==== Proof.Whole.lean ====
/- The kernel's result is the reference's result, of any arguments that satisfy the precondition. -/
module

public import proofs.«01_k».proof.Proof.KernelValue
public import proofs.«01_k».proof.Proof.RefConv
public import proofs.«01_k».proof.Proof.RefTail
public import proofs.«01_k».proof.Proof.Precondition
public import proofs.«01_k».proof.Proof.Equation

@[expose] public section

set_option maxRecDepth 16384

noncomputable section

namespace Cert.Whole

open Idealize.ShloMosaic Cert.KernelIdeal Cert.KernelIdeal.Gen Cert.KernelIdeal.Total Cert.Formula
open Cert.ReferenceIdeal.Read (val_main_v13 val_main_v25 val_main_v30 val_main_v35 val_main_v39 val_main_v46 val_main_v60)

variable (m : (ℓ : Loc nD τ sig) → Buf (Elt Ideal) ℓ) (ρ : Dev nD → PrngReg) [Cert.Pre_real_and_separable.Facts]

/-- The precondition at one device. -/
abbrev Holds (c : Dev nD) : Prop :=
  (Cert.Pre_real_and_separable.fn (F := Ideal) (a0 m c) (a1 m c) (a2 m c) (a3 m c) (a4 m c) (a5 m c) (a6 m c) (a7 m c) (a8 m c)).1 = (fun _ => 1#1)
  ∧ (Cert.Pre_real_and_separable.fn (F := Ideal) (a0 m c) (a1 m c) (a2 m c) (a3 m c) (a4 m c) (a5 m c) (a6 m c) (a7 m c) (a8 m c)).2.1 = (fun _ => 1#1)
  ∧ (Cert.Pre_real_and_separable.fn (F := Ideal) (a0 m c) (a1 m c) (a2 m c) (a3 m c) (a4 m c) (a5 m c) (a6 m c) (a7 m c) (a8 m c)).2.2.1 = (fun _ => 1#1)
  ∧ (Cert.Pre_real_and_separable.fn (F := Ideal) (a0 m c) (a1 m c) (a2 m c) (a3 m c) (a4 m c) (a5 m c) (a6 m c) (a7 m c) (a8 m c)).2.2.2.1 = (fun _ => 1#1)
  ∧ (Cert.Pre_real_and_separable.fn (F := Ideal) (a0 m c) (a1 m c) (a2 m c) (a3 m c) (a4 m c) (a5 m c) (a6 m c) (a7 m c) (a8 m c)).2.2.2.2 = (fun _ => 1#1)

/-- The two filtered images are equal: filtering by columns and then by rows is the two-dimensional filter. -/
theorem image (c : Dev nD) (h : Holds m c) (b : Fin 8) (l : Fin 32) (y x : Fin 256) :
    separated (a1 m c) (a2 m c) b l y x = val_main_v13 (F := Ideal) (a1 m c) (a2 m c) (ix4 b l y x) := by
  refine Eq.trans ?_ (Cert.ReferenceIdeal.Conv.filtered (a1 m c) (a2 m c) b l y x).symm
  exact Cert.Equation.filtered (fun r s => a1 m c (ix4 b l r s)) (a2 m c)
    (fun r s => Cert.Pre_real_and_separable.Read.map_real _ _ _ _ _ _ _ _ _ h.2.1 (ix4 b l r s))
    (fun i j => Cert.Pre_real_and_separable.Read.filter_real _ _ _ _ _ _ _ _ _ h.2.2.1 (ix2 i j))
    (Cert.Pre_real_and_separable.Read.total_positive _ _ _ _ _ _ _ _ _ h.2.2.2.1)
    (Cert.Pre_real_and_separable.Read.separable _ _ _ _ _ _ _ _ _ h.2.2.2.2) y x

/-- The two means are equal. -/
theorem mean (c : Dev nD) (b : Fin 8) (ch : Fin 64) :
    sum1 (a0 m c) b ch * Ideal.ofBits FTy.f32 0x37800000#32 = val_main_v39 (F := Ideal) (a0 m c) (ix4 b ch 0 0) :=
  (Cert.Equation.mean fun y x => a0 m c (ix4 b ch y x)).trans (Cert.ReferenceIdeal.Tail.mean_at (a0 m c) b ch).symm

/-- The two variances are equal: the mean of the squares less the square of the mean is the mean of the squared distances to the mean. -/
theorem variance (c : Dev nD) (h : Holds m c) (b : Fin 8) (ch : Fin 64) :
    sum2 (a0 m c) b ch * Ideal.ofBits FTy.f32 0x37800000#32
        - val_main_v39 (F := Ideal) (a0 m c) (ix4 b ch 0 0) * val_main_v39 (F := Ideal) (a0 m c) (ix4 b ch 0 0)
      = val_main_v46 (F := Ideal) (a0 m c) (ix4 b ch 0 0) :=
  (Cert.Equation.variance (fun y x => a0 m c (ix4 b ch y x))
    (fun y x => Cert.Pre_real_and_separable.Read.image_real _ _ _ _ _ _ _ _ _ h.1 (ix4 b ch y x)) _
    (Cert.ReferenceIdeal.Tail.mean_at (a0 m c) b ch)).trans (Cert.ReferenceIdeal.Tail.var_at (a0 m c) b ch).symm

/-- The two hidden layers are equal. -/
theorem hidden (c : Dev nD) (h : Holds m c) (b : Fin 8) (y x : Fin 256) :
    hiddenUnit (fun n l => a3 m c (ix2 n l)) (fun n => a4 m c (ix1 n)) (fun l => separated (a1 m c) (a2 m c) b l y x)
      = fun n => val_main_v25 (F := Ideal) (a1 m c) (a2 m c) (a3 m c) (a4 m c) (ix4 b n y x) := by
  funext n
  rw [Cert.ReferenceIdeal.Tail.hidden_at]
  exact congrArg (fun v => hiddenUnit (fun n l => a3 m c (ix2 n l)) (fun n => a4 m c (ix1 n)) v n) (funext fun l => image m c h b l y x)

/-- The kernel's result array is the reference's. -/
theorem result (c : Dev nD) (h : Holds m c) :
    (W9 (F := Ideal) m ρ c (Proc.devRef .tc main_v56) : FVec Ideal S8x64x256x256 .f32)
      = val_main_v60 (F := Ideal) (a0 m c) (a1 m c) (a2 m c) (a3 m c) (a4 m c) (a5 m c) (a6 m c) (a7 m c) (a8 m c) := by
  funext i
  obtain ⟨b, ch, y, x, rfl⟩ : ∃ (b : Fin 8) (ch : Fin 64) (y x : Fin 256), i = ix4 b ch y x := ⟨i 0, i 1, i 2, i 3, by
    funext k; fin_cases k <;> rfl⟩
  refine (result_at m ρ c b ch y x).trans ?_
  rw [mean m c b ch, variance m c h b ch, hidden m c h b y x, Cert.ReferenceIdeal.Tail.result_at,
    Cert.ReferenceIdeal.Tail.gamma_at, Cert.ReferenceIdeal.Tail.beta_at]

end Cert.Whole

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_real_and_separable
public import proofs.«01_k».proof.Proof.Gen.ReferenceIdeal.Run
public import proofs.«01_k».proof.Proof.Gen.ReferenceIdeal.Read
public import proofs.«01_k».proof.Proof.Result
public import proofs.«01_k».proof.Proof.Whole
public import Idealize.ShloMosaic.Adequacy
public import Idealize.ShloMosaic.Init

@[expose] public section

noncomputable section

namespace Cert.Proof

open Idealize.ShloMosaic Idealize.SL.Sem Cert.Kernel

/-- The kernel, read over any numbers, runs from every memory, leaves its arguments as they were and every counter at zero. -/
theorem kernel_frame : Cert.quiescent_Kernel (hKernel := Cert.Kernel.Gen.facts) := fun m g _ => Cert.Kernel.Gen.frame m g

/-- The same of the kernel over exact numbers. -/
theorem ideal_frame : Cert.quiescent_KernelIdeal (hKernelIdeal := Cert.KernelIdeal.Gen.facts) := fun m g _ => Cert.KernelIdeal.Gen.frame m g

/-- The same of the reference. -/
theorem reference_frame : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- From memories that agree on the arguments and satisfy the precondition, the kernel and the reference over exact numbers end with the same result. -/
theorem value : Cert.algebraic_KernelIdeal_ReferenceIdeal_pre_real_and_separable (hKernelIdeal := Cert.KernelIdeal.Gen.facts)
    (hReferenceIdeal := Cert.ReferenceIdeal.Gen.facts) (hPre_real_and_separable := Cert.Pre_real_and_separable.Gen.facts) := by
  intro m g m' g' hpre hagree
  refine ⟨fun c => Cert.KernelIdeal.Gen.W9 (F := Ideal) m g c (Proc.devRef .tc Cert.KernelIdeal.main_v56), Cert.KernelIdeal.Result.run m g, ?_⟩
  refine (θ_run _ _ _).mono (fun r h c => ?_) (Cert.ReferenceIdeal.Value.run m' g')
  refine ⟨(h c).1.trans ?_, (h c).2⟩
  rw [Cert.ReferenceIdeal.Read.val_main_v60_eq]
  obtain ⟨e0, e1, e2, e3, e4, e5, e6, e7, e8⟩ := hagree c
  rw [e0, e1, e2, e3, e4, e5, e6, e7, e8]
  exact (Cert.Whole.result m g c (hpre c)).symm

/-- Everything claimed. -/
theorem claim : Cert.Claim := ⟨Cert.Kernel.Gen.facts, Cert.KernelIdeal.Gen.facts, Cert.ReferenceIdeal.Gen.facts, Cert.Pre_real_and_separable.Gen.facts,
  kernel_frame, ideal_frame, fun m g _ => ideal_frame m g trivial, reference_frame, fun m g _ => reference_frame m g trivial, trivial, value⟩

end Cert.Proof

end
